-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![3072, 1536]⟩ ⟨2, ![3072, 3072]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1536, 3072]⟩ ⟨2, ![3072, 6144]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![3072, 3072]⟩ ⟨2, ![3072, 6144]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S3072x3072 : Shape := ⟨2, ![3072, 3072]⟩
abbrev S2x512x1536 : Shape := ⟨3, ![2, 512, 1536]⟩
abbrev S2x512x3072 : Shape := ⟨3, ![2, 512, 3072]⟩
abbrev S2 : Shape := ⟨1, ![2]⟩
abbrev S_ : Shape := ⟨0, ![]⟩
abbrev S1 : Shape := ⟨1, ![1]⟩
abbrev S1x512x1536 : Shape := ⟨3, ![1, 512, 1536]⟩
abbrev S512x1536 : Shape := ⟨2, ![512, 1536]⟩
abbrev S512x3072 : Shape := ⟨2, ![512, 3072]⟩
abbrev S1x512x3072 : Shape := ⟨3, ![1, 512, 3072]⟩

abbrev nBuf : Space → Nat
  | .hbm => 3
  | .vmem => 5
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S3072x3072, .f32⟩
  | .local _ .vmem, ⟨0, _⟩ => ⟨S1536x3072, .f32⟩
  | .local _ .vmem, ⟨1, _⟩ => ⟨S2x512x1536, .f32⟩
  | .local _ .vmem, ⟨2, _⟩ => ⟨S2x512x3072, .f32⟩
  | .local _ .vmem, ⟨3, _⟩ => ⟨S2x512x3072, .bf16⟩
  | .local _ .vmem, ⟨4, _⟩ => ⟨S2x512x3072, .bf16⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 2 9 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v41 : BitVec 32 := Scalar.muli v6 c2_i32_41
  let v42 : BitVec 32 := Scalar.addi c0_i32_42 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v43 : BitVec 32 := Scalar.muli v5 c1_i32_43
  let v44 : BitVec 32 := Scalar.addi v42 v43
  v44.toNat
def k0_dev3 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v77 : BitVec 32 := Scalar.muli v6 c2_i32_77
  let v78 : BitVec 32 := Scalar.addi c0_i32_78 v77
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v79 : BitVec 32 := Scalar.muli v5 c1_i32_79
  let v80 : BitVec 32 := Scalar.addi v78 v79
  v80.toNat
def k0_dev4 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v108 : BitVec 32 := Scalar.muli v6 c2_i32_105
  let v109 : BitVec 32 := Scalar.addi c0_i32_106 v108
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v110 : BitVec 32 := Scalar.muli v5 c1_i32_107
  let v111 : BitVec 32 := Scalar.addi v109 v110
  v111.toNat
def k0_dev5 (d0 : Dev nD) : Nat :=
  let c0_i32_162 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_161 : BitVec 32 := 2#32
  let v152 : BitVec 32 := Scalar.muli v6 c2_i32_161
  let v153 : BitVec 32 := Scalar.addi c0_i32_162 v152
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_163 : BitVec 32 := 1#32
  let v154 : BitVec 32 := Scalar.muli v5 c1_i32_163
  let v155 : BitVec 32 := Scalar.addi v153 v154
  v155.toNat
def k0_dev6 (d0 : Dev nD) : Nat :=
  let c0_i32_190 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_189 : BitVec 32 := 2#32
  let v183 : BitVec 32 := Scalar.muli v6 c2_i32_189
  let v184 : BitVec 32 := Scalar.addi c0_i32_190 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_191 : BitVec 32 := 1#32
  let v185 : BitVec 32 := Scalar.muli v5 c1_i32_191
  let v186 : BitVec 32 := Scalar.addi v184 v185
  v186.toNat
def k0_dev7 (d0 : Dev nD) : Nat :=
  let c0_i32_246 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_245 : BitVec 32 := 2#32
  let v227 : BitVec 32 := Scalar.muli v6 c2_i32_245
  let v228 : BitVec 32 := Scalar.addi c0_i32_246 v227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_247 : BitVec 32 := 1#32
  let v229 : BitVec 32 := Scalar.muli v5 c1_i32_247
  let v230 : BitVec 32 := Scalar.addi v228 v229
  v230.toNat
def k0_dev8 (d0 : Dev nD) : Nat :=
  let c0_i32_274 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_273 : BitVec 32 := 2#32
  let v258 : BitVec 32 := Scalar.muli v6 c2_i32_273
  let v259 : BitVec 32 := Scalar.addi c0_i32_274 v258
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_275 : BitVec 32 := 1#32
  let v260 : BitVec 32 := Scalar.muli v5 c1_i32_275
  let v261 : BitVec 32 := Scalar.addi v259 v260
  v261.toNat
def k0_dev9 (d0 : Dev nD) : Nat :=
  let c0_i32_330 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_329 : BitVec 32 := 2#32
  let v302 : BitVec 32 := Scalar.muli v6 c2_i32_329
  let v303 : BitVec 32 := Scalar.addi c0_i32_330 v302
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_331 : BitVec 32 := 1#32
  let v304 : BitVec 32 := Scalar.muli v5 c1_i32_331
  let v305 : BitVec 32 := Scalar.addi v303 v304
  v305.toNat
def k0_dev10 (d0 : Dev nD) : Nat :=
  let c0_i32_358 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_357 : BitVec 32 := 2#32
  let v333 : BitVec 32 := Scalar.muli v6 c2_i32_357
  let v334 : BitVec 32 := Scalar.addi c0_i32_358 v333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v335 : BitVec 32 := Scalar.muli v5 c1_i32_359
  let v336 : BitVec 32 := Scalar.addi v334 v335
  v336.toNat
def k0_dev11 (d0 : Dev nD) : Nat :=
  let c0_i32_409 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_408 : BitVec 32 := 2#32
  let v372 : BitVec 32 := Scalar.muli v6 c2_i32_408
  let v373 : BitVec 32 := Scalar.addi c0_i32_409 v372
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_410 : BitVec 32 := 1#32
  let v374 : BitVec 32 := Scalar.muli v5 c1_i32_410
  let v375 : BitVec 32 := Scalar.addi v373 v374
  v375.toNat
abbrev stage0_0 : Fin 1 → Memref sig .tc .vmem S1536x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S3072x3072 : Shape := ⟨2, ![3072, 3072]⟩
abbrev S3072x6144 : Shape := ⟨2, ![3072, 6144]⟩

abbrev nBuf : Space → Nat
  | .hbm => 3
  | .vmem => 0
  | .smem => 0
  | _ => 0

abbrev bufTy : (tb : Table) → Fin (tcTables nBuf tb) → BufTy
  | .hbm, ⟨0, _⟩ => ⟨S3072x3072, .f32⟩
  | .hbm, ⟨1, _⟩ => ⟨S3072x6144, .f32⟩
  | .hbm, ⟨2, _⟩ => ⟨S3072x6144, .f32⟩
  | _, _ => ⟨S3072x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
# The kernel's single steps, on owned memrefs

Each buffer slot is held through `owns c w q X`: core `c` owns the elements of the memref `w` at share `q` and reads `X`
through it. This module states, once for any memrefs, what a load, a store, a local copy with its wait and a change of
view do to such a holding; the kernel's body is then stepped with these alone.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Release
public import Idealize.ShloMosaic.Lib.Tactic

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra -/

/-- The rounds of the semaphores on which devices meet; a duty is named by a natural number. -/
abbrev UB : Type := URounds (GSem nD τ sig) ℕ
/-- The receive slots handed back to their writers; a slot is named by its device and its number. -/
abbrev US : Type := Release.USlots (Dev nD × Fin 2)
/-- The pipeline's copy of the rounds, the devices' rounds, the slots, and the local transfers' counters. -/
abbrev UU : Type := UR sig nD τ × (UB × (US × Counters))

local notation "𝕄" => MT nD τ sig ℕ (Elt F) ℕ UU ℕ

/-- The pipeline's rounds in the whole algebra. -/
abbrev EP : Emb (UR sig nD τ) (MT nD τ sig ℕ (Elt F) ℕ UU ℕ) := embL
/-- The devices' rounds in the whole algebra. -/
abbrev ER : Emb UB (MT nD τ sig ℕ (Elt F) ℕ UU ℕ) := (Emb.inl : Emb UB (UB × (US × Counters))).trans embR
/-- The slots in the whole algebra. -/
abbrev ES : Emb US (MT nD τ sig ℕ (Elt F) ℕ UU ℕ) :=
  ((Emb.inl : Emb US (US × Counters)).trans (Emb.inr : Emb (US × Counters) (UB × (US × Counters)))).trans embR
/-- The local transfers' counters in the whole algebra. -/
abbrev EC : UEmb Counters (MT nD τ sig ℕ (Elt F) ℕ UU ℕ) := countersEmb

abbrev 𝒱₀ : Variants := Variants.none

/-- The weakest precondition of a program on device `c`'s core. -/
abbrev wpc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- `owns` on a device's core. -/
abbrev ownsC (c : Dev nD) {sp : Space} {s : Shape} {e : EltTy} (w : Memref sig .tc sp s e) (q : PosShare TreeShare)
    (X : s.Idx → Elt F e) : sProp 𝕄 := owns (c : Thread nD τ) w q X

section Steps

variable {c : Dev nD} {Q : PUnit.{1} → sProp (MT nD τ sig ℕ (Elt F) ℕ UU ℕ)}

/-- A load of the rectangle `r` from a device that owns the slice at `r` continues with what that slice reads. -/
theorem step_load {cs : CoreSpace} {s : Shape} {e : EltTy} {w : Memref sig .tc cs s e} {r : Rect s} (hr : ∀ a, r.stride a = 1)
    {hl : w.view.LoadsAt r.toLoadRect} {k : (r.shape.Idx → Elt F e) → Prog (TpuEff nD τ sig (Elt F) Λ₀ .tc) PUnit}
    {q : PosShare TreeShare} {X : r.shape.Idx → Elt F e} :
    ownsC c (w.slice r hr) q X ⊢ iprop((ownsC c (w.slice r hr) q X -∗ wpc c (k X) Q) -∗ wpc c (.op (.load w r.toLoadRect hl) k) Q) := by
  unfold ownsC owns
  iintro ⟨%f, %hf, H⟩ Hk
  iapply (wp_load_rect 𝒱₀ (c : Thread nD τ) none Set.univ (m := w) (r := r) (f := f) (Finset.Subset.refl _)) $$ H
  iintro H
  have e1 : (w.access r).read (Elt F) f = X := hf
  rw [e1]
  iapply Hk
  iexists f
  isplitr; · ipureintro; exact hf
  iexact H

/-- An unmasked store of `x` at the rectangle `r` by a device that owns the slice at `r` leaves the slice reading `x`. -/
theorem step_store {cs : CoreSpace} {s : Shape} {e : EltTy} {w : Memref sig .tc cs s e} {r : Rect s} (hr : ∀ a, r.stride a = 1)
    {x : r.shape.Idx → Elt F e} {hx : (w.access r).Stores Finset.univ} {hm : (Finset.univ : Finset r.shape.Idx) = Finset.univ ∨ ∀ a, r.stride a = 1}
    {k : PUnit → Prog (TpuEff nD τ sig (Elt F) Λ₀ .tc) PUnit} {X : r.shape.Idx → Elt F e} :
    ownsC c (w.slice r hr) fullShare X
      ⊢ iprop((ownsC c (w.slice r hr) fullShare x -∗ wpc c (k ⟨⟩) Q) -∗ wpc c (.op (.store w r x Finset.univ hx hm) k) Q) := by
  unfold ownsC owns
  iintro ⟨%f, %hf, H⟩ Hk
  iapply (wp_store 𝒱₀ (c : Thread nD τ) none Set.univ (m := w) (r := r) (f := f) (Mk := Finset.univ) (S := (w.access r).set) (Finset.Subset.refl _)) $$ H
  iintro H
  iapply Hk
  iexists ((w.access r).write (Elt F) f x Finset.univ)
  isplitr; · ipureintro; exact View.read_write_univ _ _
  iexact H

/-- Starting a local copy of `src` onto `dst`, both owned and the semaphore at zero: in flight, it will leave `dst` reading
    what `src` reads. -/
theorem step_copy {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → Prog (TpuEff nD τ sig (Elt F) Λ₀ .tc) PUnit} {q : PosShare TreeShare} {X Y : s.Idx → Elt F e}
    (N : ℕ) (hN : dst.view.amount (.dma sm) = N) (hN0 : 0 < N) :
    iprop(ownsC c src q X ∗ ownsC c dst fullShare Y ∗ semVal ((c : Thread nD τ), .dma sm) 0)
      ⊢ iprop((Flight EC (c : Thread nD τ) (.dma sm) 0 N iprop(ownsC c dst fullShare X ∗ ownsC c src q X) -∗ wpc c (k ⟨⟩) Q)
          -∗ wpc c (.op (.enqueueDma src (.here dst) (.dma sm) hsrc hdst hsem) k) Q) := by
  unfold ownsC owns
  iintro ⟨⟨%f, %hf, Hs⟩, ⟨%g, %hg, Hd⟩, Hv⟩ Hk
  iapply (Transfers.wp_dmaLocal EC 𝒱₀ (c : Thread nD τ) none (0 : ℕ) N hN hN0 (Finset.Subset.refl _)) $$ [Hs Hd Hv]
  · isplitl [Hs]; · iexact Hs
    isplitl [Hd]; · iexact Hd
    iexact Hv
  iintro HF
  iapply Hk
  iapply (Transfers.Flight_mono EC (c : Thread nD τ) ?_) $$ HF
  iintro ⟨Hd, Hs⟩
  isplitl [Hd]
  · iexists (dst.view.write (Elt F) g (src.view.read (Elt F) f) Finset.univ)
    isplitr; · ipureintro; exact (View.read_write_univ _ _).trans hf
    iexact Hd
  · iexists f
    isplitr; · ipureintro; exact hf
    iexact Hs

/-- A device that owns a slice owns it without the slice's axes of extent one, and back: the same values, re-indexed. -/
theorem owns_squeeze {cs : Space} {s s' : Shape} {e : EltTy} {w : Memref sig .tc cs s e} {r : Rect s} (hr : ∀ a, r.stride a = 1)
    (hq : r.shape.Squeezes s') (hc : r.shape.ShapeCasts s') {q : PosShare TreeShare} (X : r.shape.Idx → Elt F e) :
    (ownsC c (w.slice r hr) q X : sProp 𝕄) ⊢ ownsC c ((w.slice r hr).squeeze s' hq) q (shapeCast s' X hc) := by
  unfold ownsC owns
  iintro ⟨%f, %hf, H⟩
  iexists f
  isplitr
  · ipureintro; subst hf; exact Memref.read_squeeze_slice w r hr hq hc f
  · rw [Memref.set_view_squeeze]; iexact H

theorem owns_unsqueeze {cs : Space} {s s' : Shape} {e : EltTy} {w : Memref sig .tc cs s e} {r : Rect s} (hr : ∀ a, r.stride a = 1)
    (hq : r.shape.Squeezes s') (hc : s'.ShapeCasts r.shape) {q : PosShare TreeShare} (Y : s'.Idx → Elt F e) :
    (ownsC c ((w.slice r hr).squeeze s' hq) q Y : sProp 𝕄) ⊢ ownsC c (w.slice r hr) q (shapeCast r.shape Y hc) := by
  unfold ownsC owns
  iintro ⟨%f, %hf, H⟩
  iexists f
  isplitr
  · ipureintro; subst hf
    exact ((congrArg (fun v => shapeCast r.shape v hc) (Memref.read_squeeze_slice w r hr hq hc.symm f)).trans
      (shapeCast_shapeCast _ _ _)).symm
  · rw [Memref.set_view_squeeze]; iexact H

/-- The wait for a local transfer in flight, by a device that owes `O` and may wait: the transfer's parts come back. -/
theorem step_wait {sp sp' : Space} {s s' : Shape} {e e' : EltTy} {srcw : Memref sig .tc sp' s' e'} {dstw : Memref sig .tc sp s e}
    {sm : DmaSem sig} {hsrc : srcw.view.WordExact} {hdst : dstw.view.WordExact}
    {k : PUnit → Prog (TpuEff nD τ sig (Elt F) Λ₀ .tc) PUnit} {N : ℕ} (hN : dstw.view.dmaCredit = N)
    {D : sProp (MT nD τ sig ℕ (Elt F) ℕ UU ℕ)} {O : CellTallies nD τ sig ℕ} :
    iprop(Flight EC (c : Thread nD τ) (.dma sm) 0 N D ∗ (∃ W, owes (c : Thread nD τ) O W) ∗ MayWait (c : Thread nD τ) (.dma sm) 0 O)
      ⊢ iprop(((D ∗ semVal ((c : Thread nD τ), .dma sm) 0 ∗ (∃ W, owes (c : Thread nD τ) O W)) -∗ wpc c (k ⟨⟩) Q)
          -∗ wpc c (.op (.waitDma2 sm srcw dstw hsrc hdst) k) Q) := by
  iintro ⟨HF, ⟨%W, HO⟩, Hm⟩ Hk
  iapply (Transfers.wp_waitLocalO EC 𝒱₀ (c : Thread nD τ) none (0 : ℕ) hN) $$ [HF HO Hm]
  · isplitl [HF]; · iexact HF
    isplitl [HO]; · iexact HO
    iexact Hm
  iintro ⟨HD, Hv, HO⟩
  iapply Hk
  isplitl [HD]; · iexact HD
  isplitl [Hv]; · iexact Hv
  iexists _; iexact HO

end Steps

end Cert.MatmulProof

end
-- ==== Proof.Protocol.lean ====
/-
# The exchange: cells, contents, schedule, levels

The two devices of a pair (`c` and `peer c`) sum their halves of the contraction chunk by chunk. Chunk `i` (rows
`512 i … 512 i + 511`, `i < 6`) uses slot `i % 2` of every buffer and is round `i / 2` of that slot's semaphores.

* barrier: the peer pays one unit on entry, with the fact that both its receive slots are released for their first write;
* send cell of slot `s`: the device's own transfer pays the block's credit each round, with the send slot handed back;
* receive cell of slot `s`: the peer's transfer pays the block's credit each round, with the slot holding the peer's chunk;
* credit cell: the peer pays one unit after it has read each of chunks 0 … 3. Two of these units may be outstanding and may
  arrive in either order, so they are four duties of ONE round, and each carries what it and the one before it say: the slot
  of chunk `k` is released again, and its receive cell has ended that round.

A receive slot travels from its reader back to its writer through the release library's invariant; the facts above are
what the writer needs to take it.
-/
module

public import proofs.«01_k».proof.Proof.Steps

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

/-! ## The pairing of the devices -/

set_option backward.proofsInPublic true in
/-- The device that holds the other half of the contraction. -/
def peer (c : Dev nD) : Dev nD := ⟨((c.val % 2) + 2) - 2 * (c.val / 2), by revert c; decide⟩

theorem peer_peer (c : Dev nD) : peer (peer c) = c := by revert c; decide
theorem peer_ne (c : Dev nD) : peer c ≠ c := by revert c; decide

/-- The pairing as a permutation of the devices. -/
def pairing : Dev nD ≃ Dev nD := ⟨peer, peer, peer_peer, peer_peer⟩

/-! ## The memrefs -/

theorem inbA (s : Fin 2) : ∀ a : Fin S2x512x1536.rank, (![s.val, 0, 0] : Fin 3 → ℕ) a + S1x512x1536.size a ≤ S2x512x1536.size a := by
  revert s; decide
theorem inbP (s : Fin 2) : ∀ a : Fin S2x512x3072.rank, (![s.val, 0, 0] : Fin 3 → ℕ) a + S1x512x3072.size a ≤ S2x512x3072.size a := by
  revert s; decide
theorem inbAR (i : Fin 6) : ∀ a : Fin S3072x1536.rank, (![512 * i.val, 0] : Fin 2 → ℕ) a + S512x1536.size a ≤ S3072x1536.size a := by
  revert i; decide
theorem inbOR (i : Fin 6) : ∀ a : Fin S3072x3072.rank, (![512 * i.val, 0] : Fin 2 → ℕ) a + S512x3072.size a ≤ S3072x3072.size a := by
  revert i; decide
theorem inbS (s : Fin 2) : ∀ a : Fin S2.rank, (![s.val] : Fin 1 → ℕ) a + S1.size a ≤ S2.size a := by revert s; decide

/-- The rectangle of slot `s` of a double buffer of chunks of the left operand, and of the result. -/
abbrev rectA (s : Fin 2) : Rect S2x512x1536 := Rect.unit (s := S2x512x1536) ![s.val, 0, 0] S1x512x1536.size (inbA s)
abbrev rectP (s : Fin 2) : Rect S2x512x3072 := Rect.unit (s := S2x512x3072) ![s.val, 0, 0] S1x512x3072.size (inbP s)
/-- The rectangle of the rows of chunk `i` of the left operand, and of the result. -/
abbrev rectAR (i : Fin 6) : Rect S3072x1536 := Rect.unit (s := S3072x1536) ![512 * i.val, 0] S512x1536.size (inbAR i)
abbrev rectOR (i : Fin 6) : Rect S3072x3072 := Rect.unit (s := S3072x3072) ![512 * i.val, 0] S512x3072.size (inbOR i)

/-- Slot `s` of: the left operand's chunks, the partial products, the chunks to send, the chunks received. -/
abbrev aS (s : Fin 2) : Memref sig .tc .vmem S1x512x1536 .f32 := (Memref.whole cc0_scratch0).slice (rectA s) (fun _ => rfl)
abbrev pS (s : Fin 2) : Memref sig .tc .vmem S1x512x3072 .f32 := (Memref.whole cc0_scratch1).slice (rectP s) (fun _ => rfl)
abbrev sS (s : Fin 2) : Memref sig .tc .vmem S1x512x3072 .bf16 := (Memref.whole cc0_scratch2).slice (rectP s) (fun _ => rfl)
abbrev rS (s : Fin 2) : Memref sig .tc .vmem S1x512x3072 .bf16 := (Memref.whole cc0_scratch3).slice (rectP s) (fun _ => rfl)
/-- The slots as the copies name them, without the leading axis. -/
abbrev aQ (s : Fin 2) : Memref sig .tc .vmem S512x1536 .f32 := (aS s).squeeze S512x1536 squeezes_S1x512x1536_S512x1536
abbrev pQ (s : Fin 2) : Memref sig .tc .vmem S512x3072 .f32 := (pS s).squeeze S512x3072 squeezes_S1x512x3072_S512x3072
abbrev sQ (s : Fin 2) : Memref sig .tc .vmem S512x3072 .bf16 := (sS s).squeeze S512x3072 squeezes_S1x512x3072_S512x3072
abbrev rQ (s : Fin 2) : Memref sig .tc .vmem S512x3072 .bf16 := (rS s).squeeze S512x3072 squeezes_S1x512x3072_S512x3072
/-- The rows of chunk `i` of the left operand and of the result. -/
abbrev aR (i : Fin 6) : Memref sig .tc .hbm S512x1536 .f32 := (Memref.whole main_arg0).slice (rectAR i) (fun _ => rfl)
abbrev oR (i : Fin 6) : Memref sig .tc .hbm S512x3072 .f32 := (Memref.whole main_v1).slice (rectOR i) (fun _ => rfl)

/-! ## The semaphores -/

abbrev barS : Sem sig := (SemArray.scalar (sig.barrier 0 rfl) : Sems sig S_).sem
abbrev credS : Sem sig := (cc0_scratch8 : Sems sig S_).sem
abbrev semAt (a : DmaSems sig S2) (s : Fin 2) : DmaSem sig :=
  ((a.slice (Rect.unit (s := S2) ![s.val] S1.size (inbS s))).squeeze S_ squeezes_S1_S_).sem
abbrev sendS (s : Fin 2) : DmaSem sig := semAt cc0_scratch4 s
abbrev recvS (s : Fin 2) : DmaSem sig := semAt cc0_scratch5 s
abbrev loadS (s : Fin 2) : DmaSem sig := semAt cc0_scratch6 s
abbrev storeS (s : Fin 2) : DmaSem sig := semAt cc0_scratch7 s

/-- The six semaphores on which devices meet: barrier, send 0 and 1, receive 0 and 1, credit. -/
abbrev csem : Fin 6 → SemLoc sig := fun
  | 0 => .reg barS | 1 => .dma (sendS 0) | 2 => .dma (sendS 1) | 3 => .dma (recvS 0) | 4 => .dma (recvS 1) | 5 => .reg credS

abbrev barCell (c : Dev nD) : GSem nD τ sig := ((c : Thread nD τ), .reg barS)
abbrev credCell (c : Dev nD) : GSem nD τ sig := ((c : Thread nD τ), .reg credS)
abbrev sendCell (c : Dev nD) (s : Fin 2) : GSem nD τ sig := ((c : Thread nD τ), .dma (sendS s))
abbrev recvCell (c : Dev nD) (s : Fin 2) : GSem nD τ sig := ((c : Thread nD τ), .dma (recvS s))
abbrev kcell (ck : Dev nD × Fin 6) : GSem nD τ sig := ((ck.1 : Thread nD τ), csem ck.2)

/-- The place of slot `s`'s send and receive semaphores among the six. -/
def ksend (s : Fin 2) : Fin 6 := if s = 0 then 1 else 2
def krecv (s : Fin 2) : Fin 6 := if s = 0 then 3 else 4
theorem kcell_send (c : Dev nD) (s : Fin 2) : kcell (c, ksend s) = sendCell c s := by fin_cases s <;> rfl
theorem kcell_recv (c : Dev nD) (s : Fin 2) : kcell (c, krecv s) = recvCell c s := by fin_cases s <;> rfl

theorem csem_injective : Function.Injective csem := by decide
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of one chunk's transfer. -/
abbrev N : ℕ := (rQ 0).view.dmaCredit
theorem N_pos : 0 < N := View.dmaCredit_pos _ (by decide)

/-! ## Slots and rounds of the chunks -/

/-- The slot of chunk `i`. -/
def slotOf (i : ℕ) : Fin 2 := ⟨i % 2, Nat.mod_lt _ (by decide)⟩
/-- The chunk that slot `s` carries in round `r`. -/
def chunkOf (s : Fin 2) (r : ℕ) : Fin 6 := ⟨(2 * r + s.val) % 6, Nat.mod_lt _ (by decide)⟩
theorem chunkOf_slotOf (i : Fin 6) : chunkOf (slotOf i.val) (i.val / 2) = i := by revert i; decide

/-! ## Contents -/

variable (m : (ℓ : Loc nD τ sig) → Buf (Elt F) ℓ)

/-- Device `c`'s block of the right operand, as the pipeline stages it. -/
def bAt (c : Dev nD) : Vec F S1536x3072 .f32 :=
  (win0_0.blk (0 : Fin 1)).view.read (Elt F) (m ((c : Thread nD τ).loc main_arg1))
/-- Chunk `i` of device `c`'s block of the left operand. -/
def aAt (c : Dev nD) (i : Fin 6) : Vec F S512x1536 .f32 :=
  (aR i).view.read (Elt F) (m ((c : Thread nD τ).loc main_arg0))
/-- Device `c`'s partial product of chunk `i`, as it lies in its slot. -/
def partAt (c : Dev nD) (i : Fin 6) : Vec F S1x512x3072 .f32 :=
  k0_pay1 (shapeCast S1x512x1536 (aAt m c i) (by decide)) (bAt m c)
/-- That partial product rounded for the transfer. -/
def msgAt (c : Dev nD) (i : Fin 6) : Vec F S1x512x3072 .bf16 := k0_pay2 (partAt m c i)
/-- Device `c`'s result of chunk `i`: its own partial product and the rounded one of its peer. -/
def sumAt (c : Dev nD) (i : Fin 6) : Vec F S1x512x3072 .f32 := k0_pay5 (partAt m c i) (msgAt m (peer c) i)

/-! ## The schedule -/

/-- Slot `key.2` of the receive buffer on device `key.1`, at any contents. -/
def rslot (key : Dev nD × Fin 2) : sProp 𝕄 := iprop(∃ X, ownsC key.1 (rS key.2) fullShare X)

instance rslot_storable (key : Dev nD × Fin 2) : BI.Storable (upEmb : UEmb _ 𝕄) (rslot (F := F) key) := by unfold rslot; infer_instance

/-- Reader `p` has read chunk `k`: the chunk's slot is released again and its receive cell has ended the chunk's round. -/
def rfact (p : Dev nD) (k : ℕ) : sProp 𝕄 :=
  iprop(Release.released ES (p, slotOf k) (k / 2 + 2) ∗ reached ER (recvCell p (slotOf k)) (k / 2 + 1))

instance rfact_persistent (p : Dev nD) (k : ℕ) : BI.Persistent (rfact (F := F) p k) := by unfold rfact; infer_instance
instance rfact_storable (p : Dev nD) (k : ℕ) : BI.Storable (upEmb : UEmb _ 𝕄) (rfact (F := F) p k) := by unfold rfact; infer_instance

/-- What the peer's entry signal hands device `c`. -/
def barPay (c : Dev nD) : sProp 𝕄 :=
  iprop(Release.released ES (peer c, (0 : Fin 2)) 1 ∗ Release.released ES (peer c, (1 : Fin 2)) 1)
/-- What the peer's credit for chunk `k` hands device `c`. -/
def credPay (c : Dev nD) (k : ℕ) : sProp 𝕄 := iprop(rfact (peer c) k ∗ rfact (peer c) (k - 1))
/-- What a send cell hands back. -/
def sendPay (c : Dev nD) (s : Fin 2) : sProp 𝕄 := iprop(∃ X, ownsC c (sS s) fullShare X)
/-- What a receive cell hands over. -/
def recvPay (c : Dev nD) (s : Fin 2) (r : ℕ) : sProp 𝕄 := ownsC c (rS s) fullShare (msgAt m (peer c) (chunkOf s r))

instance barPay_persistent (c : Dev nD) : BI.Persistent (barPay (F := F) c) := by unfold barPay; infer_instance
instance credPay_persistent (c : Dev nD) (k : ℕ) : BI.Persistent (credPay (F := F) c k) := by unfold credPay; infer_instance

/-- The kinds of semaphore, for the schedule. -/
inductive Kind' | bar | cred | send (s : Fin 2) | recv (s : Fin 2) | other

/-- The kind of a semaphore. -/
def kindS (sm : SemLoc sig) : Kind' :=
  if sm = .reg barS then .bar else if sm = .reg credS then .cred
  else if sm = .dma (sendS 0) then .send 0 else if sm = .dma (sendS 1) then .send 1
  else if sm = .dma (recvS 0) then .recv 0 else if sm = .dma (recvS 1) then .recv 1 else .other

/-- The kind of a cell: that of its semaphore on a tensor core. -/
def kind (g : GSem nD τ sig) : Kind' := if g.1.2 = .tc then kindS g.2 else .other

theorem kind_bar (c : Dev nD) : kind (barCell c) = .bar := by unfold kind; rw [if_pos rfl]; rfl
theorem kind_cred (c : Dev nD) : kind (credCell c) = .cred := by unfold kind; rw [if_pos rfl]; rfl
theorem kind_send (c : Dev nD) (s : Fin 2) : kind (sendCell c s) = .send s := by unfold kind; rw [if_pos rfl]; fin_cases s <;> rfl
theorem kind_recv (c : Dev nD) (s : Fin 2) : kind (recvCell c s) = .recv s := by unfold kind; rw [if_pos rfl]; fin_cases s <;> rfl

/-- The duties of a round by the cell's kind. -/
def dutiesK (r : ℕ) : Kind' → Finset ℕ
  | .bar => if r = 0 then {0} else ∅
  | .cred => if r = 0 then Finset.range 4 else ∅
  | .send _ => if r < 3 then {0} else ∅
  | .recv _ => if r < 3 then {0} else ∅
  | .other => ∅
/-- The units of a duty. -/
def amountK : Kind' → ℕ
  | .bar => 1
  | .cred => 1
  | _ => N
/-- What a duty hands over. -/
def payloadK (c : Dev nD) (r d : ℕ) : Kind' → sProp 𝕄
  | .bar => barPay c
  | .cred => credPay c d
  | .send s => sendPay c s
  | .recv s => recvPay m c s r
  | .other => iprop(emp)

/-- The schedule of the exchange. -/
def Rd : Rounds.Schedule (GSem nD τ sig) ℕ 𝕄 where
  duties g r := dutiesK r (kind g)
  unitless _ := False
  amount g _ _ := amountK (kind g)
  payload g r d := payloadK m g.1.1 r d (kind g)
  amount_pos g _ _ _ := by
    cases h : kind g <;> simp only [amountK] <;> first | exact Nat.one_pos | exact N_pos

instance Rd_payload_storable (g : GSem nD τ sig) (r : ℕ) (d : ℕ) :
    BI.Storable (upEmb : UEmb _ 𝕄) ((Rd (F := F) m).payload g r d) := by
  show BI.Storable upEmb (payloadK m g.1.1 r d (kind g))
  cases kind g <;> simp only [payloadK] <;> (first | unfold barPay | unfold credPay | unfold sendPay | unfold recvPay | skip) <;> infer_instance

section Sched
variable (c : Dev nD) (s : Fin 2)

theorem duties_bar : (Rd (F := F) m).duties (barCell c) 0 = {0} := by simp only [Rd, kind_bar, dutiesK, if_true]
theorem duties_cred : (Rd (F := F) m).duties (credCell c) 0 = Finset.range 4 := by simp only [Rd, kind_cred, dutiesK, if_true]
theorem duties_send {r : ℕ} (hr : r < 3) : (Rd (F := F) m).duties (sendCell c s) r = {0} := by simp only [Rd, kind_send, dutiesK, if_pos hr]
theorem duties_recv {r : ℕ} (hr : r < 3) : (Rd (F := F) m).duties (recvCell c s) r = {0} := by simp only [Rd, kind_recv, dutiesK, if_pos hr]
theorem duties_later_bar (r : ℕ) (hr : 1 ≤ r) : (Rd (F := F) m).duties (barCell c) r = ∅ := by
  simp only [Rd, kind_bar, dutiesK, if_neg (show ¬ r = 0 by omega)]
theorem duties_later_cred (r : ℕ) (hr : 1 ≤ r) : (Rd (F := F) m).duties (credCell c) r = ∅ := by
  simp only [Rd, kind_cred, dutiesK, if_neg (show ¬ r = 0 by omega)]
theorem duties_later_send (r : ℕ) (hr : 3 ≤ r) : (Rd (F := F) m).duties (sendCell c s) r = ∅ := by
  simp only [Rd, kind_send, dutiesK, if_neg (show ¬ r < 3 by omega)]
theorem duties_later_recv (r : ℕ) (hr : 3 ≤ r) : (Rd (F := F) m).duties (recvCell c s) r = ∅ := by
  simp only [Rd, kind_recv, dutiesK, if_neg (show ¬ r < 3 by omega)]

theorem amount_bar (r d : ℕ) : (Rd (F := F) m).amount (barCell c) r d = 1 := by simp only [Rd, kind_bar, amountK]
theorem amount_cred (r d : ℕ) : (Rd (F := F) m).amount (credCell c) r d = 1 := by simp only [Rd, kind_cred, amountK]
theorem amount_send (r d : ℕ) : (Rd (F := F) m).amount (sendCell c s) r d = N := by simp only [Rd, kind_send, amountK]
theorem amount_recv (r d : ℕ) : (Rd (F := F) m).amount (recvCell c s) r d = N := by simp only [Rd, kind_recv, amountK]

theorem expect_bar : (Rd (F := F) m).expect (barCell c) 0 = 1 := by
  unfold Schedule.expect Schedule.amountOf; rw [duties_bar, Finset.sum_singleton, amount_bar]
theorem expect_cred : (Rd (F := F) m).expect (credCell c) 0 = 4 := by
  unfold Schedule.expect Schedule.amountOf
  rw [duties_cred, Finset.sum_congr rfl fun d _ => amount_cred m c 0 d, Finset.sum_const, Finset.card_range]; rfl
theorem expect_send {r : ℕ} (hr : r < 3) : (Rd (F := F) m).expect (sendCell c s) r = N := by
  unfold Schedule.expect Schedule.amountOf; rw [duties_send m c s hr, Finset.sum_singleton, amount_send]
theorem expect_recv {r : ℕ} (hr : r < 3) : (Rd (F := F) m).expect (recvCell c s) r = N := by
  unfold Schedule.expect Schedule.amountOf; rw [duties_recv m c s hr, Finset.sum_singleton, amount_recv]

theorem payload_bar (r d : ℕ) : (Rd (F := F) m).payload (barCell c) r d = barPay c := by simp only [Rd, kind_bar, payloadK]
theorem payload_cred (r d : ℕ) : (Rd (F := F) m).payload (credCell c) r d = credPay c d := by simp only [Rd, kind_cred, payloadK]
theorem payload_send (r d : ℕ) : (Rd (F := F) m).payload (sendCell c s) r d = sendPay c s := by simp only [Rd, kind_send, payloadK]
theorem payload_recv (r d : ℕ) : (Rd (F := F) m).payload (recvCell c s) r d = recvPay m c s r := by simp only [Rd, kind_recv, payloadK]

/-- What a completed round of each of these cells has handed over. -/
theorem rest_bar : bigSep ((Rd (F := F) m).duties (barCell c) 0 \ ∅) (fun d => (Rd (F := F) m).payload (barCell c) 0 d) = barPay c := by
  rw [Finset.sdiff_empty, duties_bar, bigSep_singleton, payload_bar]
theorem rest_send {r : ℕ} (hr : r < 3) :
    bigSep ((Rd (F := F) m).duties (sendCell c s) r \ ∅) (fun d => (Rd (F := F) m).payload (sendCell c s) r d) = sendPay c s := by
  rw [Finset.sdiff_empty, duties_send m c s hr, bigSep_singleton, payload_send]
theorem rest_recv {r : ℕ} (hr : r < 3) :
    bigSep ((Rd (F := F) m).duties (recvCell c s) r \ ∅) (fun d => (Rd (F := F) m).payload (recvCell c s) r d) = recvPay m c s r := by
  rw [Finset.sdiff_empty, duties_recv m c s hr, bigSep_singleton, payload_recv]

end Sched

/-- A later credit says what an earlier one says: the credits for chunk `j ≥ k` and the chunk before it cover chunk `k`. -/
theorem rfact_mono (p : Dev nD) {j k : ℕ} (h : k ≤ j) (h2 : slotOf j = slotOf k) : rfact (F := F) p j ⊢ rfact p k := by
  unfold rfact
  rw [h2]
  iintro ⟨H1, H2⟩
  isplitl [H1]
  · iapply (Release.released_mono ES (show k / 2 + 2 ≤ j / 2 + 2 by omega)); iexact H1
  · iapply (Rounds.reached_mono ER (show k / 2 + 1 ≤ j / 2 + 1 by omega)); iexact H2

theorem credPay_of_le (c : Dev nD) {j k : ℕ} (h : k ≤ j) : credPay (F := F) c j ⊢ rfact (peer c) k := by
  unfold credPay
  by_cases hp : j % 2 = k % 2
  · iintro ⟨H, -⟩
    iapply (rfact_mono (F := F) (peer c) h (Fin.ext hp)); iexact H
  · iintro ⟨-, H⟩
    iapply (rfact_mono (F := F) (peer c) (show k ≤ j - 1 by omega) (Fin.ext (show (j - 1) % 2 = k % 2 by omega))); iexact H

/-- Of any `k + 1` credits one is for chunk `k` or a later one. -/
theorem credPay_of_card (c : Dev nD) (S : Finset ℕ) (k : ℕ) (h : k < S.card) : bigSep S (credPay (F := F) c) ⊢ rfact (peer c) k := by
  have hex : ∃ j ∈ S, k ≤ j := by
    by_contra hn
    have hsub : S ⊆ Finset.range k := fun j hj => Finset.mem_range.mpr (by
      by_contra hk; exact hn ⟨j, hj, by omega⟩)
    have := Finset.card_le_card hsub
    rw [Finset.card_range] at this; omega
  obtain ⟨j, hj, hkj⟩ := hex
  exact (bigSep_elim hj).trans (credPay_of_le c hkj)

/-! ## What each core owes; the levels -/

/-- The credit indices, which are also their levels: barrier 1, receive of chunk `j` 2 j + 2, credit of chunk `j` 2 j + 3;
    everything local is at 0. -/
def owedR (c : Dev nD) (i : ℕ) : CellTallies nD τ sig ℕ :=
  ∑ j ∈ Finset.Ico i 6, tallyAt (recvCell (peer c) (slotOf j)) (2 * j + 2) N
def owedC (c : Dev nD) (k : ℕ) : CellTallies nD τ sig ℕ :=
  ∑ j ∈ Finset.Ico k 4, tallyAt (credCell (peer c)) (2 * j + 3) 1
/-- What device `c` owes when it has sent the chunks below `i` and given the credits below `k`. -/
def owed (c : Dev nD) (i k : ℕ) : CellTallies nD τ sig ℕ := owedR c i + owedC c k
/-- What it owes on entry. -/
def O₀ (c : Dev nD) : CellTallies nD τ sig ℕ := owed c 0 0 + tallyAt (barCell (peer c)) 1 1

theorem owed_done (c : Dev nD) : owed c 6 4 = 0 := by
  unfold owed owedR owedC
  rw [Finset.Ico_self, Finset.Ico_self, Finset.sum_empty, Finset.sum_empty, add_zero]
theorem sum_from {i n : ℕ} (h : i < n) (f : ℕ → CellTallies nD τ sig ℕ) :
    ∑ j ∈ Finset.Ico i n, f j = f i + ∑ j ∈ Finset.Ico (i + 1) n, f j := by
  rw [show Finset.Ico i n = insert i (Finset.Ico (i + 1) n) from by ext j; simp only [Finset.mem_Ico, Finset.mem_insert]; omega,
    Finset.sum_insert (by simp only [Finset.mem_Ico]; omega)]
theorem owed_send (c : Dev nD) (i k : ℕ) (hi : i < 6) :
    owed c i k = owed c (i + 1) k + tallyAt (recvCell (peer c) (slotOf i)) (2 * i + 2) N := by
  unfold owed owedR
  rw [sum_from hi, add_comm (tallyAt _ _ _), add_right_comm]
theorem owed_cred (c : Dev nD) (i k : ℕ) (hk : k < 4) :
    owed c i k = owed c i (k + 1) + tallyAt (credCell (peer c)) (2 * k + 3) 1 := by
  unfold owed owedC
  rw [sum_from hk, add_comm (tallyAt _ _ _), add_assoc]

/-- A tally at one cell and index is positive there alone. -/
theorem tallyAt_pos {g g' : GSem nD τ sig} {u u' n : ℕ} (h : 0 < tallyAt g u n g' u') : g' = g ∧ u' = u := by
  rw [tallyAt_apply] at h
  by_contra hn
  rw [if_neg hn] at h; exact Nat.lt_irrefl 0 h

theorem sum_pos_exists {S : Finset ℕ} {f : ℕ → CellTallies nD τ sig ℕ} {g : GSem nD τ sig} {u : ℕ}
    (h : 0 < (∑ j ∈ S, f j) g u) : ∃ j ∈ S, 0 < f j g u := by
  rw [Finset.sum_apply, Finsupp.finsetSum_apply] at h
  by_contra hn
  have : ∑ j ∈ S, f j g u = 0 := Finset.sum_eq_zero fun j hj => by
    by_contra h0; exact hn ⟨j, hj, Nat.pos_of_ne_zero h0⟩
  omega

theorem owed_pos {c : Dev nD} {i k : ℕ} {g : GSem nD τ sig} {u : ℕ} (h : 0 < owed c i k g u) :
    g.1.2 = .tc ∧ ((∃ j, i ≤ j ∧ j < 6 ∧ u = 2 * j + 2) ∨ (∃ j, k ≤ j ∧ j < 4 ∧ u = 2 * j + 3)) := by
  unfold owed at h
  rw [Pi.add_apply, Finsupp.add_apply] at h
  rcases Nat.eq_zero_or_pos (owedR c i g u) with h0 | h0
  · rw [h0, Nat.zero_add] at h
    obtain ⟨j, hj, hp⟩ := sum_pos_exists h
    obtain ⟨rfl, rfl⟩ := tallyAt_pos hp
    rw [Finset.mem_Ico] at hj
    exact ⟨rfl, .inr ⟨j, hj.1, hj.2, rfl⟩⟩
  · obtain ⟨j, hj, hp⟩ := sum_pos_exists h0
    obtain ⟨rfl, rfl⟩ := tallyAt_pos hp
    rw [Finset.mem_Ico] at hj
    exact ⟨rfl, .inl ⟨j, hj.1, hj.2, rfl⟩⟩

/-- The indices in use on a tensor core's cells, and their levels. -/
def L (g : GSem nD τ sig) : Finset ℕ := if g.1.2 = .tc then Finset.range 16 else ∅
def lv (_ : GSem nD τ sig) (u : ℕ) : ℕ := u

theorem L_of_ne (g : GSem nD τ sig) (h : g.1.2 ≠ .tc) : L g = ∅ := if_neg h
theorem mem_L {g : GSem nD τ sig} {u : ℕ} (h : g.1.2 = .tc) (hu : u < 16) : u ∈ L g := by
  unfold L; rw [if_pos h]; exact Finset.mem_range.mpr hu

/-- A wait at a level below all that the device still owes is allowed. -/
theorem mayWait (c : Dev nD) (sm : SemLoc sig) (u i k : ℕ) (hu : u < 16) (h1 : i < 6 → u < 2 * i + 2) (h2 : k < 4 → u < 2 * k + 3) :
    (levAts L lv : sProp 𝕄) ⊢ MayWait (c : Thread nD τ) sm u (owed c i k) :=
  MayOwe.of_cut (L := L) (lev := lv) u (fun p hp => by rw [Finset.mem_singleton.mp hp]; exact mem_L rfl hu)
    (fun g v hg => by
      obtain ⟨ht, ⟨j, hj, hj', rfl⟩ | ⟨j, hj, hj', rfl⟩⟩ := owed_pos hg <;> exact mem_L ht (by omega))
    (fun p hp => by rw [Finset.mem_singleton.mp hp]; exact le_refl _)
    (fun g v hg => by
      show u < v
      obtain ⟨ht, ⟨j, hj, hj', rfl⟩ | ⟨j, hj, hj', rfl⟩⟩ := owed_pos hg <;> omega)

/-- On entry a device may wait for its pipeline's staging. -/
theorem mayWait_stage (c : Dev nD) (sm : SemLoc sig) : (levAts L lv : sProp 𝕄) ⊢ MayWait (c : Thread nD τ) sm 0 (O₀ c) := by
  have hpos {g : GSem nD τ sig} {v : ℕ} (hg : 0 < O₀ c g v) : g.1.2 = .tc ∧ 0 < v ∧ v < 16 := by
    unfold O₀ at hg
    rw [Pi.add_apply, Finsupp.add_apply] at hg
    rcases Nat.eq_zero_or_pos (owed c 0 0 g v) with h0 | h0
    · rw [h0, Nat.zero_add] at hg
      obtain ⟨rfl, rfl⟩ := tallyAt_pos hg
      exact ⟨rfl, by omega, by omega⟩
    · obtain ⟨ht, ⟨j, hj, hj', rfl⟩ | ⟨j, hj, hj', rfl⟩⟩ := owed_pos h0 <;> exact ⟨ht, by omega, by omega⟩
  exact MayOwe.of_cut (L := L) (lev := lv) 0 (fun p hp => by rw [Finset.mem_singleton.mp hp]; exact mem_L rfl (by omega))
    (fun g v hg => mem_L (hpos hg).1 (hpos hg).2.2)
    (fun p hp => by rw [Finset.mem_singleton.mp hp]; exact le_refl _)
    (fun g v hg => (hpos hg).2.1)

end Cert.MatmulProof

end
-- ==== Proof.Moves.lean ====
/-
# The body's moves between the devices

One lemma per kind of effect that meets the other device: the entry signal and wait, a chunk's send, the waits for a chunk
sent and for a chunk received, the credit given and the credit awaited. Each takes the pieces it uses and, with what it
leaves, continues.
-/
module

public import proofs.«01_k».proof.Proof.Protocol

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

/-- What every core knows throughout: the invariants of all the cells and slots, round 0 of every cell, the levels. -/
def records (K : Dev nD × Fin 6 → ℕ) (Ks : Dev nD × Fin 2 → ℕ) : sProp 𝕄 :=
  iprop(bigSep Finset.univ (fun ck => cellInv ER (Rd m) (K ck) (kcell ck)) ∗ bigSep Finset.univ (fun ck => reached ER (kcell ck) 0)
    ∗ bigSep Finset.univ (fun key => Release.slotInv ES (Ks key) key (rslot key)) ∗ levAts L lv)

instance records_persistent (K : Dev nD × Fin 6 → ℕ) (Ks : Dev nD × Fin 2 → ℕ) : BI.Persistent (records (F := F) m K Ks) := by
  unfold records; infer_instance

section Records
variable {m} {K : Dev nD × Fin 6 → ℕ} {Ks : Dev nD × Fin 2 → ℕ}

theorem elim_univ {J : Type} [Fintype J] [DecidableEq J] (Φ : J → sProp 𝕄) (j : J) : bigSep Finset.univ Φ ⊢ Φ j :=
  bigSep_elim (Finset.mem_univ j)
theorem records_inv (ck : Dev nD × Fin 6) : records (F := F) m K Ks ⊢ cellInv ER (Rd m) (K ck) (kcell ck) := by
  unfold records
  iintro ⟨H, -, -, -⟩
  iapply (elim_univ (fun ck => cellInv ER (Rd m) (K ck) (kcell ck)) ck); iexact H
theorem records_reached (ck : Dev nD × Fin 6) : records (F := F) m K Ks ⊢ reached ER (kcell ck) 0 := by
  unfold records
  iintro ⟨-, H, -, -⟩
  iapply (elim_univ (F := F) (fun ck => reached ER (kcell ck) 0) ck); iexact H
theorem records_slot (key : Dev nD × Fin 2) : records (F := F) m K Ks ⊢ Release.slotInv ES (Ks key) key (rslot key) := by
  unfold records
  iintro ⟨-, -, H, -⟩
  iapply (elim_univ (fun key => Release.slotInv ES (Ks key) key (rslot key)) key); iexact H
theorem records_lev : records (F := F) m K Ks ⊢ levAts L lv := by
  unfold records
  iintro ⟨-, -, -, H⟩; iexact H
theorem records_send (c : Dev nD) (s : Fin 2) : records (F := F) m K Ks ⊢ cellInv ER (Rd m) (K (c, ksend s)) (sendCell c s) := by
  rw [← kcell_send]; exact records_inv _
theorem records_recv (c : Dev nD) (s : Fin 2) : records (F := F) m K Ks ⊢ cellInv ER (Rd m) (K (c, krecv s)) (recvCell c s) := by
  rw [← kcell_recv]; exact records_inv _

end Records

theorem castP : S1x512x3072.ShapeCasts S512x3072 := by decide

/-- A receive slot is exclusive. -/
theorem rslot_false (key : Dev nD × Fin 2) : iprop(rslot (F := F) key ∗ rslot key) ⊢ (False : sProp 𝕄) := by
  have hne : ((rS key.2).view.set).Nonempty := View.set_nonempty (v := (rS key.2).view) (by decide)
  have h := Release.slot_slot_false (Ix := ℕ) (Name := ℕ) (U := UU) (Lvl := ℕ) (Val := Elt F) (ℓ := (rS key.2).view.loc (key.1 : Thread nD τ)) hne
  unfold Release.slot at h
  unfold rslot ownsC owns
  iintro ⟨⟨%X, %f, -, H⟩, %Y, %g, -, H'⟩
  iapply h
  isplitl [H]
  · iexists f; iexact H
  · iexists g; iexact H'

/-- A device's dues, whatever it has waited for. -/
def owing (c : Dev nD) (i k : ℕ) : sProp 𝕄 := iprop(∃ W, owes (c : Thread nD τ) (owed c i k) W)

section Moves

variable {m} {K : Dev nD × Fin 6 → ℕ} {Ks : Dev nD × Fin 2 → ℕ} {c : Dev nD} {Q : PUnit.{1} → sProp (MT nD τ sig ℕ (Elt F) ℕ UU ℕ)}

/-- The entry signal: both receive slots are deposited, and the peer may hear it. -/
theorem step_barSignal {n : Dev nD} (hn : n = peer c) {k' : ℕ} (hk' : k' = 1) {k : PUnit → Prog (TpuEff nD τ sig (Elt F) Λ₀ .tc) PUnit} :
    iprop(records m K Ks ∗ (∃ W, owes (c : Thread nD τ) (O₀ c) W) ∗ dutyTok ER (barCell (peer c)) 0 0
        ∗ rslot (c, (0 : Fin 2)) ∗ rslot (c, (1 : Fin 2)) ∗ Release.readerAt ES (c, (0 : Fin 2)) 0 ∗ Release.readerAt ES (c, (1 : Fin 2)) 0)
      ⊢ iprop(((owing c 0 0 ∗ Release.readerAt ES (c, (0 : Fin 2)) 1 ∗ Release.readerAt ES (c, (1 : Fin 2)) 1) -∗ wpc c (k ⟨⟩) Q)
          -∗ wpc c (.op (.semSignal (Dev.tc n : Thread nD τ) barS k') k) Q) := by
  subst hn
  iintro ⟨#Hrec, ⟨%W, HO⟩, Ht, H0, H1, Hr0, Hr1⟩ Hk
  ihave #Hi0 := (records_slot (c, (0 : Fin 2))) $$ Hrec
  ihave #Hi1 := (records_slot (c, (1 : Fin 2))) $$ Hrec
  ihave #Hib := (records_inv (peer c, (0 : Fin 6))) $$ Hrec
  ihave #Hrb := (records_reached (peer c, (0 : Fin 6))) $$ Hrec
  imod (Release.slot_release ES (Set.mem_univ _) (rslot_false (c, (0 : Fin 2))) 0) $$ [Hr0 H0] with ⟨Hr0, #Hw0⟩
  · isplitr; · iexact Hi0
    isplitl [Hr0] <;> iassumption
  imod (Release.slot_release ES (Set.mem_univ _) (rslot_false (c, (1 : Fin 2))) 0) $$ [Hr1 H1] with ⟨Hr1, #Hw1⟩
  · isplitr; · iexact Hi1
    isplitl [Hr1] <;> iassumption
  iapply (Rounds.wp_signal 𝒱₀ ER (Rd m) (c : Thread nD τ) none (dst := (peer c : Thread nD τ)) (κ := K (peer c, 0))
      (d := 0) (by rw [duties_bar]; exact Finset.mem_singleton_self _) ((amount_bar m (peer c) 0 0).trans hk'.symm) 1 (O₀ := O₀ c) (owed c 0 0)
      (by rw [hk']; rfl)) $$ [HO Ht]
  · isplitr; · iexact Hib
    isplitl [HO]; · iexact HO
    isplitl [Ht]; · iexact Ht
    isplitr
    · rw [payload_bar]; unfold barPay; rw [peer_peer]
      isplitr; · iexact Hw0
      iexact Hw1
    · iexact Hrb
  iintro HO
  iapply Hk
  unfold owing
  isplitl [HO]; · iexists W; iexact HO
  isplitl [Hr0] <;> iassumption

/-- The entry wait: the peer's receive slots may be written for the first time; the barrier is done with. -/
theorem step_barWait {k' : ℕ} (hk' : k' = 1) {k : PUnit → Prog (TpuEff nD τ sig (Elt F) Λ₀ .tc) PUnit} :
    iprop(records m K Ks ∗ owing c 0 0 ∗ cred (tallyAt (barCell c) 1 1) ∗ atPos ER (barCell c) 0 ∅ 0)
      ⊢ iprop(((owing c 0 0 ∗ semVal (barCell c) 0 ∗ barPay c) -∗ wpc c (k ⟨⟩) Q) -∗ wpc c (.op (.semWait barS k') k) Q) := by
  subst hk'
  unfold owing
  iintro ⟨#Hrec, ⟨%W, HO⟩, Hc, Hat⟩ Hk
  ihave #Hi := (records_inv (c, (0 : Fin 6))) $$ Hrec
  ihave #Hlev := records_lev $$ Hrec
  iapply (Rounds.wp_wait_rest_token 𝒱₀ ER (Rd m) (c : Thread nD τ) none (κ := K (c, 0)) (sm := .reg barS)
      (wpE_semWait_eq 𝒱₀ (c : Thread nD τ) none Set.univ) (Set.mem_univ _) 1 (O := owed c 0 0) (W := W) (R := 0) (m := 0) (T := ∅)
      (by rw [expect_bar])) $$ [Hc HO Hat]
  · isplitr; · iexact Hi
    isplitl [Hc]; · iexact Hc
    isplitl [HO]; · iexact HO
    isplitr; · iapply (mayWait c (.reg barS) 1 0 0 (by decide) (by decide) (by decide)); iexact Hlev
    iexact Hat
  iintro ⟨HO, Hat, -, Hp⟩
  imod (Rounds.cell_close ER (Rd m) (Set.mem_univ (K (c, 0))) (fun h => h) (R := 0 + 1) (duties_later_bar m c)) $$ [Hat] with Hz
  · isplitr; · iexact Hi
    iexact Hat
  ihave Hp := (Entails.of_eq (rest_bar m c)) $$ Hp
  iapply Hk
  isplitl [HO]; · iexists _; iexact HO
  isplitl [Hz] <;> iassumption

/-- What the device spends on sending round `r` of slot `s`. -/
def sendTok (c : Dev nD) (s : Fin 2) (r : ℕ) : sProp 𝕄 :=
  iprop(Release.writeTok ES (peer c, s) (r + 1) ∗ dutyTok ER (sendCell c s) r 0 ∗ dutyTok ER (recvCell (peer c) s) r 0)

/-- The send of chunk `j`, round `r` of slot `s`: the peer's slot, released to this device, is taken, and the transfer will
    land on it. -/
theorem step_send {n : Dev nD} (hn : n = peer c) (s : Fin 2) (r : ℕ) (hr : r < 3) (j a : ℕ) (hj : j = 2 * r + s.val)
    {i : Fin 6} (hi : chunkOf s r = i) {hsc : (rQ s).view.ref.isScScratch = false}
    {hsrc : (sQ s).view.WordExact} {hdst : (rQ s).view.WordExact}
    {hsem : DmaTarget.Typed .vmem (.dma (recvS s)) (.remote (Dev.tc n : Thread nD τ) (rQ s) (.dma (sendS s)) hsc)}
    {k : PUnit → Prog (TpuEff nD τ sig (Elt F) Λ₀ .tc) PUnit} :
    iprop(records m K Ks ∗ owing c j a ∗ ownsC c (sS s) fullShare (msgAt m c i) ∗ Release.released ES (peer c, s) (r + 1)
        ∗ reached ER (recvCell (peer c) s) r ∗ reached ER (sendCell c s) r ∗ sendTok c s r)
      ⊢ iprop(((owing c (j + 1) a ∗ cred (tallyAt (sendCell c s) 0 N)) -∗ wpc c (k ⟨⟩) Q)
          -∗ wpc c (.op (.enqueueDma (sQ s) (.remote (Dev.tc n : Thread nD τ) (rQ s) (.dma (sendS s)) hsc) (.dma (recvS s)) hsrc hdst hsem) k) Q) := by
  subst hn
  have hj6 : j < 6 := by have := s.isLt; omega
  have hjs : slotOf j = s := Fin.ext (by rw [hj]; show (2 * r + s.val) % 2 = s.val; omega)
  unfold owing sendTok
  iintro ⟨#Hrec, ⟨%W, HO⟩, Hs, #Hrel, #Hrr, #Hrs, Hw, Hds, Hdr⟩ Hk
  ihave #Hsl := (records_slot (peer c, s)) $$ Hrec
  ihave #His := (records_send c s) $$ Hrec
  ihave #Hir := (records_recv (peer c) s) $$ Hrec
  imod (Release.slot_take ES (Set.mem_univ _) (r + 1)) $$ [Hw] with Hd
  · isplitr; · iexact Hsl
    isplitr; · iexact Hrel
    iexact Hw
  unfold rslot ownsC owns
  icases Hs with ⟨%f, %hf, Hs⟩
  icases Hd with ⟨%Y, %g, -, Hd⟩
  iapply (Rounds.wp_send_pointsTo 𝒱₀ ER (Rd m) (c : Thread nD τ) none (c' := (peer c : Thread nD τ)) (src := sQ s) (dst := rQ s)
      (κ₁ := K (c, ksend s)) (κ₂ := K (peer c, krecv s))
      (r₁ := r) (r₂ := r) (d₁ := 0) (d₂ := 0) (fs := f) (fd := g) (q := fullShare)
      (by rw [duties_send m c s hr]; exact Finset.mem_singleton_self _) (by rw [duties_recv m (peer c) s hr]; exact Finset.mem_singleton_self _)
      (2 * j + 2) 0 N (O₀ := owed c j a) (by fin_cases s <;> rfl) (amount_send m c s r 0) (amount_recv m (peer c) s r 0) (O := owed c (j + 1) a)
      (by rw [owed_send c j a hj6, hjs]) (W := W)
      (by
        rw [payload_send]; unfold sendPay ownsC owns
        iintro H
        iexists _; iexists f
        isplitr; · ipureintro; rfl
        rw [Memref.set_view_squeeze]; iexact H)
      (by
        rw [payload_recv, recvPay, peer_peer, hi]; unfold ownsC owns
        iintro H
        iexists ((rQ s).view.write (Elt F) g ((sQ s).view.read (Elt F) f) Finset.univ)
        isplitr
        · ipureintro
          have h1 := View.read_write_univ (v := (rQ s).view) (Val := Elt F) g ((sQ s).view.read (Elt F) f)
          rw [Memref.read_squeeze_slice (Val := Elt F) (Memref.whole cc0_scratch3) (rectP s) (fun _ => rfl) squeezes_S1x512x3072_S512x3072 castP] at h1
          rw [Memref.read_squeeze_slice (Val := Elt F) (Memref.whole cc0_scratch2) (rectP s) (fun _ => rfl) squeezes_S1x512x3072_S512x3072 castP] at h1
          have h2 := congrArg (fun v => shapeCast S1x512x3072 v castP.symm) h1
          simp only [shapeCast_shapeCast] at h2
          exact h2.trans hf
        · rw [Memref.set_view_squeeze]; iexact H))
    $$ [Hs Hd HO Hds Hdr]
  · isplitr; · iexact His
    isplitr; · iexact Hir
    isplitl [Hs]; · rw [Memref.set_view_squeeze]; iexact Hs
    isplitl [Hd]; · rw [Memref.set_view_squeeze]; iexact Hd
    isplitl [HO]; · iexact HO
    isplitl [Hds]; · iexact Hds
    isplitr; · iexact Hrs
    isplitl [Hdr]; · iexact Hdr
    iexact Hrr
  iintro ⟨Hc, HO⟩
  iapply Hk
  isplitl [HO]; · iexists W; iexact HO
  iexact Hc

/-- The wait for chunk `j` from the peer, round `r` of slot `s`. -/
theorem step_recvWait (s : Fin 2) (r : ℕ) (hr : r < 3) (j a b : ℕ) (hj : j = 2 * r + s.val) {i : Fin 6} (hi : chunkOf s r = i)
    (h1 : a < 6 → 2 * j + 2 < 2 * a + 2) (h2 : b < 4 → 2 * j + 2 < 2 * b + 3)
    {hsrc : (sQ s).view.WordExact} {hdst : (rQ s).view.WordExact} {k : PUnit → Prog (TpuEff nD τ sig (Elt F) Λ₀ .tc) PUnit} :
    iprop(records m K Ks ∗ owing c a b ∗ cred (tallyAt (recvCell c s) (2 * j + 2) N) ∗ atPos ER (recvCell c s) r ∅ 0)
      ⊢ iprop(((owing c a b ∗ atPos ER (recvCell c s) (r + 1) ∅ 0 ∗ reached ER (recvCell c s) (r + 1)
            ∗ ownsC c (rS s) fullShare (msgAt m (peer c) i)) -∗ wpc c (k ⟨⟩) Q)
          -∗ wpc c (.op (.waitDma2 (recvS s) (sQ s) (rQ s) hsrc hdst) k) Q) := by
  unfold owing
  iintro ⟨#Hrec, ⟨%W, HO⟩, Hc, Hat⟩ Hk
  ihave #Hi := (records_recv c s) $$ Hrec
  ihave #Hlev := records_lev $$ Hrec
  iapply (Rounds.wp_wait_rest_token 𝒱₀ ER (Rd m) (c : Thread nD τ) none (κ := K (c, krecv s)) (sm := .dma (recvS s))
      (wpE_waitDma2_eq 𝒱₀ (c : Thread nD τ) none Set.univ) (Set.mem_univ _) (2 * j + 2) (O := owed c a b) (W := W) (R := r) (m := 0) (T := ∅)
      (by rw [expect_recv m c s hr, Nat.zero_add])) $$ [Hc HO Hat]
  · isplitr; · iexact Hi
    isplitl [Hc]; · iexact Hc
    isplitl [HO]; · iexact HO
    isplitr
    · iapply (mayWait c (.dma (recvS s)) (2 * j + 2) a b (by have := s.isLt; omega) h1 h2); iexact Hlev
    iexact Hat
  iintro ⟨HO, Hat, Hre, Hp⟩
  ihave Hp := (Entails.of_eq (rest_recv m c s hr)) $$ Hp
  iapply Hk
  isplitl [HO]; · iexists _; iexact HO
  isplitl [Hat]; · iexact Hat
  isplitl [Hre]; · iexact Hre
  unfold recvPay; rw [hi]; iexact Hp

/-- The wait for the chunk that this device sent in round `r` of slot `s`: the slot may be written again. -/
theorem step_sendWait (s : Fin 2) (r : ℕ) (hr : r < 3) (a b : ℕ)
    {hsrc : (rQ s).view.WordExact} {hdst : (sQ s).view.WordExact} {k : PUnit → Prog (TpuEff nD τ sig (Elt F) Λ₀ .tc) PUnit} :
    iprop(records m K Ks ∗ owing c a b ∗ cred (tallyAt (sendCell c s) 0 N) ∗ atPos ER (sendCell c s) r ∅ 0)
      ⊢ iprop(((owing c a b ∗ atPos ER (sendCell c s) (r + 1) ∅ 0 ∗ reached ER (sendCell c s) (r + 1)
            ∗ sendPay c s) -∗ wpc c (k ⟨⟩) Q)
          -∗ wpc c (.op (.waitDma2 (sendS s) (rQ s) (sQ s) hsrc hdst) k) Q) := by
  unfold owing
  iintro ⟨#Hrec, ⟨%W, HO⟩, Hc, Hat⟩ Hk
  ihave #Hi := (records_send c s) $$ Hrec
  ihave #Hlev := records_lev $$ Hrec
  iapply (Rounds.wp_wait_rest_token 𝒱₀ ER (Rd m) (c : Thread nD τ) none (κ := K (c, ksend s)) (sm := .dma (sendS s))
      (wpE_waitDma2_eq 𝒱₀ (c : Thread nD τ) none Set.univ) (Set.mem_univ _) 0 (O := owed c a b) (W := W) (R := r) (m := 0) (T := ∅)
      (by rw [expect_send m c s hr, Nat.zero_add])) $$ [Hc HO Hat]
  · isplitr; · iexact Hi
    isplitl [Hc]; · iexact Hc
    isplitl [HO]; · iexact HO
    isplitr
    · iapply (mayWait c (.dma (sendS s)) 0 a b (by omega) (fun _ => by omega) (fun _ => by omega)); iexact Hlev
    iexact Hat
  iintro ⟨HO, Hat, Hre, Hp⟩
  ihave Hp := (Entails.of_eq (rest_send m c s hr)) $$ Hp
  iapply Hk
  isplitl [HO]; · iexists _; iexact HO
  isplitl [Hat]; · iexact Hat
  isplitl [Hre]; · iexact Hre
  iexact Hp

/-- What the reader has already told of the chunks before `j`. -/
def rprev (c : Dev nD) : ℕ → sProp 𝕄
  | 0 => iprop(emp)
  | j + 1 => rfact c j

/-- The credit for chunk `j`, round `r` of slot `s`: the slot, read, goes back to its writer. -/
theorem step_credSignal {n : Dev nD} (hn : n = peer c) {k' : ℕ} (hk' : k' = 1) (s : Fin 2) (r j a : ℕ) (hj : j = 2 * r + s.val) (hj4 : j < 4)
    {k : PUnit → Prog (TpuEff nD τ sig (Elt F) Λ₀ .tc) PUnit} {X : Vec F S1x512x3072 .bf16} :
    iprop(records m K Ks ∗ owing c a j ∗ dutyTok ER (credCell (peer c)) 0 j ∗ ownsC c (rS s) fullShare X
        ∗ Release.readerAt ES (c, s) (r + 1) ∗ reached ER (recvCell c s) (r + 1) ∗ rprev c j)
      ⊢ iprop(((owing c a (j + 1) ∗ Release.readerAt ES (c, s) (r + 2) ∗ rprev c (j + 1)) -∗ wpc c (k ⟨⟩) Q)
          -∗ wpc c (.op (.semSignal (Dev.tc n : Thread nD τ) credS k') k) Q) := by
  subst hn
  have hjs : slotOf j = s := Fin.ext (by rw [hj]; show (2 * r + s.val) % 2 = s.val; omega)
  have hjr : j / 2 = r := by have := s.isLt; omega
  have hfact : iprop(Release.released ES (c, s) (r + 2) ∗ reached ER (recvCell c s) (r + 1)) ⊢ (rfact c j : sProp 𝕄) := by
    unfold rfact; rw [hjs, hjr]
  have hpay : iprop(rfact (F := F) c j ∗ rprev c j) ⊢ (Rd m).payload (credCell (peer c)) 0 j := by
    rw [payload_cred]; unfold credPay; rw [peer_peer]
    cases j with
    | zero => iintro ⟨#H, -⟩; isplitr <;> iexact H
    | succ j => exact BI.Entails.refl _
  unfold owing
  iintro ⟨#Hrec, ⟨%W, HO⟩, Ht, Hs, Hrd, Hre, Hpr⟩ Hk
  ihave #Hsl := (records_slot (c, s)) $$ Hrec
  ihave #Hi := (records_inv (peer c, (5 : Fin 6))) $$ Hrec
  ihave #Hrb := (records_reached (peer c, (5 : Fin 6))) $$ Hrec
  imod (Release.slot_release ES (Set.mem_univ _) (rslot_false (c, s)) (r + 1)) $$ [Hrd Hs] with ⟨Hrd, Hw⟩
  · isplitr; · iexact Hsl
    isplitl [Hrd]; · iexact Hrd
    unfold rslot; iexists X; iexact Hs
  ihave #Hf := hfact $$ [Hw Hre]
  · isplitl [Hw] <;> iassumption
  iapply (Rounds.wp_signal 𝒱₀ ER (Rd m) (c : Thread nD τ) none (dst := (peer c : Thread nD τ)) (κ := K (peer c, 5))
      (d := j) (by rw [duties_cred]; exact Finset.mem_range.mpr hj4) ((amount_cred m (peer c) 0 j).trans hk'.symm) (2 * j + 3) (O₀ := owed c a j) (owed c a (j + 1))
      (by rw [hk', owed_cred c a j hj4])) $$ [HO Ht Hpr]
  · isplitr; · iexact Hi
    isplitl [HO]; · iexact HO
    isplitl [Ht]; · iexact Ht
    isplitl [Hpr]
    · iapply hpay
      isplitr; · iexact Hf
      iexact Hpr
    · iexact Hrb
  iintro HO
  iapply Hk
  isplitl [HO]; · iexists W; iexact HO
  isplitl [Hrd]; · iexact Hrd
  unfold rprev; iexact Hf

/-- The owner of a credit cell after `k` waits: some of the four credits have been seen, at least `k`. -/
def credAt (c : Dev nD) (k : ℕ) : sProp 𝕄 :=
  iprop(∃ T : Finset ℕ, ⌜T ⊆ Finset.range 4⌝ ∗ atPos ER (credCell c) 0 T k ∗ bigSep T (credPay c))

theorem credAt_zero (c : Dev nD) : atPos ER (credCell c) 0 ∅ 0 ⊢ (credAt c 0 : sProp 𝕄) := by
  unfold credAt
  iintro H
  iexists ∅
  isplitr; · ipureintro; exact Finset.empty_subset _
  isplitl [H]; · iexact H
  rw [bigSep_empty]; iempintro

theorem bigSep_sdiff_join {S T : Finset ℕ} (h : T ⊆ S) (Φ : ℕ → sProp 𝕄) : iprop(bigSep T Φ ∗ bigSep (S \ T) Φ) ⊢ bigSep S Φ := by
  have h1 : S = T ∪ (S \ T) := (Finset.union_sdiff_of_subset h).symm
  have h2 := (BI.bigSep_union (Φ := Φ) (Finset.disjoint_sdiff (s := T) (t := S)))
  rw [← h1] at h2
  exact Entails.of_eq h2.symm

/-- The wait for the `k`-th credit: chunk `k` has been read by the peer. -/
theorem step_credWait {k' : ℕ} (hk' : k' = 1) (j a b : ℕ) (hj : j < 3) (h1 : a < 6 → 2 * j + 3 < 2 * a + 2) (h2 : b < 4 → 2 * j + 3 < 2 * b + 3)
    {k : PUnit → Prog (TpuEff nD τ sig (Elt F) Λ₀ .tc) PUnit} :
    iprop(records m K Ks ∗ owing c a b ∗ cred (tallyAt (credCell c) (2 * j + 3) 1) ∗ credAt c j)
      ⊢ iprop(((owing c a b ∗ credAt c (j + 1) ∗ rfact (peer c) j) -∗ wpc c (k ⟨⟩) Q) -∗ wpc c (.op (.semWait credS k') k) Q) := by
  subst hk'
  unfold owing
  iintro ⟨#Hrec, ⟨%W, HO⟩, Hc, Hat⟩ Hk
  ihave #Hi := (records_inv (c, (5 : Fin 6))) $$ Hrec
  ihave #Hlev := records_lev $$ Hrec
  unfold credAt
  icases Hat with ⟨%T, %hT, Hat, #HT⟩
  iapply (Rounds.wp_wait 𝒱₀ ER (Rd m) (c : Thread nD τ) none (κ := K (c, 5)) (sm := .reg credS)
      (wpE_semWait_eq 𝒱₀ (c : Thread nD τ) none Set.univ) (Set.mem_univ _) (cr := Finsupp.single (2 * j + 3) 1) (O := owed c a b) (W := W)
      {(.reg credS, 2 * j + 3)} (R := 0) (m := j) (T := T) (by rw [Util.total_single]) (image_single_subset _ _ _)) $$ [Hc HO Hat]
  · isplitr; · iexact Hi
    isplitl [Hc]; · iexact Hc
    isplitl [HO]; · iexact HO
    isplitr
    · iapply (mayWait c (.reg credS) (2 * j + 3) a b (by omega) h1 h2); iexact Hlev
    iexact Hat
  iintro %S ⟨%hS, HO, Hat, Hp⟩
  obtain ⟨hTS, hSd, hcard⟩ := hS
  rw [duties_cred] at hSd hcard
  rw [expect_cred, Finset.card_sdiff_of_subset hSd, Finset.card_range] at hcard
  have hS4 := Finset.card_le_card hSd
  rw [Finset.card_range] at hS4
  ihave #Hp := (Entails.of_eq (bigSep_congr fun d _ => payload_cred m c 0 d)) $$ Hp
  ihave #HS := (bigSep_sdiff_join hTS (credPay c)) $$ []
  · isplitr <;> iassumption
  ihave #Hf := (credPay_of_card c S j (by omega)) $$ HS
  iapply Hk
  isplitl [HO]; · iexists _; iexact HO
  isplitl [Hat]
  · iexists S
    isplitr; · ipureintro; exact hSd
    isplitl [Hat]; · iexact Hat
    iexact HS
  iexact Hf

/-- The last such wait: the credit semaphore is done with. -/
theorem step_credWaitLast {k' : ℕ} (hk' : k' = 1) (a b : ℕ) (h1 : a < 6 → 9 < 2 * a + 2) (h2 : b < 4 → 9 < 2 * b + 3)
    {k : PUnit → Prog (TpuEff nD τ sig (Elt F) Λ₀ .tc) PUnit} :
    iprop(records m K Ks ∗ owing c a b ∗ cred (tallyAt (credCell c) 9 1) ∗ credAt c 3)
      ⊢ iprop(((owing c a b ∗ semVal (credCell c) 0 ∗ rfact (peer c) 3) -∗ wpc c (k ⟨⟩) Q) -∗ wpc c (.op (.semWait credS k') k) Q) := by
  subst hk'
  unfold owing
  iintro ⟨#Hrec, ⟨%W, HO⟩, Hc, Hat⟩ Hk
  ihave #Hi := (records_inv (c, (5 : Fin 6))) $$ Hrec
  ihave #Hlev := records_lev $$ Hrec
  unfold credAt
  icases Hat with ⟨%T, %hT, Hat, #HT⟩
  iapply (Rounds.wp_wait_rest_token 𝒱₀ ER (Rd m) (c : Thread nD τ) none (κ := K (c, 5)) (sm := .reg credS)
      (wpE_semWait_eq 𝒱₀ (c : Thread nD τ) none Set.univ) (Set.mem_univ _) 9 (O := owed c a b) (W := W) (R := 0) (m := 3) (T := T)
      (by rw [expect_cred])) $$ [Hc HO Hat]
  · isplitr; · iexact Hi
    isplitl [Hc]; · iexact Hc
    isplitl [HO]; · iexact HO
    isplitr
    · iapply (mayWait c (.reg credS) 9 a b (by omega) h1 h2); iexact Hlev
    iexact Hat
  iintro ⟨HO, Hat, -, Hp⟩
  imod (Rounds.cell_close ER (Rd m) (Set.mem_univ (K (c, 5))) (fun h => h) (R := 0 + 1) (duties_later_cred m c)) $$ [Hat] with Hz
  · isplitr; · iexact Hi
    iexact Hat
  rw [duties_cred]
  ihave #Hp := (Entails.of_eq (bigSep_congr fun d _ => payload_cred m c 0 d)) $$ Hp
  ihave #HS := (bigSep_sdiff_join hT (credPay c)) $$ []
  · isplitr <;> iassumption
  ihave #Hf := (credPay_of_card c (Finset.range 4) 3 (by decide)) $$ HS
  iapply Hk
  isplitl [HO]; · iexists _; iexact HO
  isplitl [Hz]; · iexact Hz
  iexact Hf

/-- A send or receive cell whose three rounds are done closes. -/
theorem close_send (s : Fin 2) : iprop(records m K Ks ∗ atPos ER (sendCell c s) 3 ∅ 0) ⊢ (|={Set.univ}=> semVal (sendCell c s) 0 : sProp 𝕄) := by
  iintro ⟨#Hrec, Hat⟩
  iapply (Rounds.cell_close ER (Rd m) (Set.mem_univ (K (c, ksend s))) (fun h => h) (R := 3) (duties_later_send m c s))
  isplitr; · iapply (records_send c s); iexact Hrec
  iexact Hat
theorem close_recv (s : Fin 2) : iprop(records m K Ks ∗ atPos ER (recvCell c s) 3 ∅ 0) ⊢ (|={Set.univ}=> semVal (recvCell c s) 0 : sProp 𝕄) := by
  iintro ⟨#Hrec, Hat⟩
  iapply (Rounds.cell_close ER (Rd m) (Set.mem_univ (K (c, krecv s))) (fun h => h) (R := 3) (duties_later_recv m c s))
  isplitr; · iapply (records_recv c s); iexact Hrec
  iexact Hat

end Moves

end Cert.MatmulProof

end
-- ==== Proof.Phases.lean ====
/-
# The body's moves on one device

One lemma per stretch of a chunk's work that stays on the device: its rows fetched, the partial product, the rounding for
the transfer, the addition of the peer's chunk, the result's rows written back.
-/
module

public import proofs.«01_k».proof.Proof.Moves

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

theorem castA : S512x1536.ShapeCasts S1x512x1536 := by decide

/-- A slot at contents that no longer matter. -/
def aFree (c : Dev nD) (s : Fin 2) : sProp 𝕄 := iprop(∃ X, ownsC c (aS s) fullShare X)
def pFree (c : Dev nD) (s : Fin 2) : sProp 𝕄 := iprop(∃ X, ownsC c (pS s) fullShare X)
/-- The rows of a chunk of the result before they are written. -/
def oFree (c : Dev nD) (i : Fin 6) : sProp 𝕄 := iprop(∃ X, ownsC c (oR i) fullShare X)
/-- The rows of a chunk of the left operand. -/
def aRow (c : Dev nD) (i : Fin 6) : sProp 𝕄 := ownsC c (aR i) fullShare (aAt m c i)
/-- The rows of a chunk of the result, written. -/
def oRow (c : Dev nD) (i : Fin 6) : sProp 𝕄 := ownsC c (oR i) fullShare (shapeCast S512x3072 (sumAt m c i) castP)
/-- A chunk of the left operand in its slot. -/
def aFull (c : Dev nD) (s : Fin 2) (i : Fin 6) : sProp 𝕄 := ownsC c (aS s) fullShare (shapeCast S1x512x1536 (aAt m c i) castA)
/-- The staged block of the right operand. -/
def bStg (c : Dev nD) : sProp 𝕄 := ownsC c (Memref.whole cc0_stg0_0) fullShare (bAt m c)

abbrev loadCell (c : Dev nD) (s : Fin 2) : GSem nD τ sig := ((c : Thread nD τ), .dma (loadS s))
abbrev storeCell (c : Dev nD) (s : Fin 2) : GSem nD τ sig := ((c : Thread nD τ), .dma (storeS s))

/-- The credits of a chunk's fetch and of its writing back. -/
abbrev Na : ℕ := (aQ 0).view.dmaCredit
abbrev No : ℕ := (oR 0).view.dmaCredit
theorem Na_pos : 0 < Na := View.dmaCredit_pos _ (by decide)
theorem No_pos : 0 < No := View.dmaCredit_pos _ (by decide)

/-- Chunk `i` on its way into slot `s`, and out of it. -/
def loading (c : Dev nD) (s : Fin 2) (i : Fin 6) : sProp 𝕄 :=
  Flight EC (c : Thread nD τ) (.dma (loadS s)) 0 Na iprop(ownsC c (aQ s) fullShare (aAt m c i) ∗ ownsC c (aR i) fullShare (aAt m c i))
def storing (c : Dev nD) (s : Fin 2) (i : Fin 6) : sProp 𝕄 :=
  Flight EC (c : Thread nD τ) (.dma (storeS s)) 0 No
    iprop(oRow m c i ∗ ownsC c (pQ s) fullShare (shapeCast S512x3072 (sumAt m c i) castP))

section Phases

variable {m} {K : Dev nD × Fin 6 → ℕ} {Ks : Dev nD × Fin 2 → ℕ} {c : Dev nD} {Q : PUnit.{1} → sProp (MT nD τ sig ℕ (Elt F) ℕ UU ℕ)}

theorem phase_loadStart (s : Fin 2) (i : Fin 6) {hsrc : (aR i).view.WordExact} {hdst : (aQ s).view.WordExact}
    {hsem : DmaTarget.Typed (nD := nD) (τ := τ) (p := .tc) .hbm (.dma (loadS s)) (.here (aQ s))}
    {k : PUnit → Prog (TpuEff nD τ sig (Elt F) Λ₀ .tc) PUnit} :
    iprop(aRow m c i ∗ aFree c s ∗ semVal (loadCell c s) 0)
      ⊢ iprop((loading m c s i -∗ wpc c (k ⟨⟩) Q) -∗ wpc c (.op (.enqueueDma (aR i) (.here (aQ s)) (.dma (loadS s)) hsrc hdst hsem) k) Q) := by
  unfold aRow aFree loading
  iintro ⟨Ha, ⟨%X, Hs⟩, Hv⟩ Hk
  ihave Hs := (owns_squeeze (fun _ => rfl) squeezes_S1x512x1536_S512x1536 castA.symm X) $$ Hs
  iapply (step_copy Na (by fin_cases s <;> rfl) Na_pos) $$ [Ha Hs Hv]
  · isplitl [Ha]; · iexact Ha
    isplitl [Hs]; · iexact Hs
    iexact Hv
  iexact Hk

theorem phase_loadWait (s : Fin 2) (i : Fin 6) (a b : ℕ) {hsrc : (aR i).view.WordExact} {hdst : (aQ s).view.WordExact}
    {k : PUnit → Prog (TpuEff nD τ sig (Elt F) Λ₀ .tc) PUnit} :
    iprop(records m K Ks ∗ owing c a b ∗ loading m c s i)
      ⊢ iprop(((owing c a b ∗ aFull m c s i ∗ aRow m c i ∗ semVal (loadCell c s) 0) -∗ wpc c (k ⟨⟩) Q)
          -∗ wpc c (.op (.waitDma2 (loadS s) (aR i) (aQ s) hsrc hdst) k) Q) := by
  unfold aRow aFull loading owing
  iintro ⟨#Hrec, HO, HF⟩ Hk
  iapply (step_wait (by fin_cases s <;> rfl)) $$ [HO HF]
  · isplitl [HF]; · iexact HF
    isplitl [HO]; · iexact HO
    iapply (mayWait c (.dma (loadS s)) 0 a b (by decide) (fun _ => by omega) (fun _ => by omega))
    iapply records_lev; iexact Hrec
  iintro ⟨⟨Hs, Ha⟩, Hv, HO⟩
  iapply Hk
  isplitl [HO]; · iexact HO
  isplitl [Hs]; · iapply (owns_unsqueeze (fun _ => rfl) squeezes_S1x512x1536_S512x1536 castA (aAt m c i)) $$ Hs
  isplitl [Ha] <;> iassumption

theorem step_loadB {hl : (Memref.whole cc0_stg0_0).view.LoadsAt (Rect.unit (s := S1536x3072) ![0, 0] S1536x3072.size inb_S1536x3072_S1536x3072_0_0).toLoadRect}
    {k : Vec F S1536x3072 .f32 → Prog (TpuEff nD τ sig (Elt F) Λ₀ .tc) PUnit} :
    bStg m c ⊢ iprop((bStg m c -∗ wpc c (k (bAt m c)) Q)
      -∗ wpc c (.op (.load (Memref.whole cc0_stg0_0) (Rect.unit (s := S1536x3072) ![0, 0] S1536x3072.size inb_S1536x3072_S1536x3072_0_0).toLoadRect hl) k) Q) := by
  unfold bStg ownsC owns
  iintro ⟨%f, %hf, H⟩ Hk
  iapply (wp_load_rect 𝒱₀ (c : Thread nD τ) none Set.univ (m := Memref.whole cc0_stg0_0)
    (r := Rect.unit (s := S1536x3072) ![0, 0] S1536x3072.size inb_S1536x3072_S1536x3072_0_0) (f := f) (View.set_slice_subset _ _)) $$ H
  iintro H
  have e1 : ((Memref.whole cc0_stg0_0).access (Rect.unit (s := S1536x3072) ![0, 0] S1536x3072.size inb_S1536x3072_S1536x3072_0_0)).read (Elt F) f = bAt m c :=
    (Memref.readAt_unit_zero (Elt F) cc0_stg0_0 (by decide) _ f).trans hf
  rw [e1]
  iapply Hk
  iexists f
  isplitr; · ipureintro; exact hf
  iexact H

/-- A chunk's partial product: its rows and the right operand's block read, the product stored. -/
theorem phase_compute (s : Fin 2) (i : Fin 6) {g : Vec F S1x512x1536 .f32 → Vec F S1536x3072 .f32 → Vec F S1x512x3072 .f32}
    (hg : g (shapeCast S1x512x1536 (aAt m c i) castA) (bAt m c) = partAt m c i)
    {h1 : (Memref.whole cc0_scratch0).view.LoadsAt (rectA s).toLoadRect}
    {h2 : (Memref.whole cc0_stg0_0).view.LoadsAt (Rect.unit (s := S1536x3072) ![0, 0] S1536x3072.size inb_S1536x3072_S1536x3072_0_0).toLoadRect}
    {h3 : (Memref.whole cc0_scratch1).view.LoadsAt (rectP s).toLoadRect}
    {hx : ((Memref.whole cc0_scratch1).access (rectP s)).Stores Finset.univ} {hm : (Finset.univ : Finset (rectP s).shape.Idx) = Finset.univ ∨ ∀ a, (rectP s).stride a = 1}
    {k : PUnit → Prog (TpuEff nD τ sig (Elt F) Λ₀ .tc) PUnit} :
    iprop(aFull m c s i ∗ bStg m c ∗ pFree c s)
      ⊢ iprop(((aFree c s ∗ bStg m c ∗ ownsC c (pS s) fullShare (partAt m c i)) -∗ wpc c (k ⟨⟩) Q)
          -∗ wpc c (.op (.load (Memref.whole cc0_scratch0) (rectA s).toLoadRect h1) fun v =>
              .op (.load (Memref.whole cc0_stg0_0) (Rect.unit (s := S1536x3072) ![0, 0] S1536x3072.size inb_S1536x3072_S1536x3072_0_0).toLoadRect h2) fun b =>
              .op (.load (Memref.whole cc0_scratch1) (rectP s).toLoadRect h3) fun _ =>
              .op (.store (Memref.whole cc0_scratch1) (rectP s) (g v b) Finset.univ hx hm) k) Q) := by
  unfold aFull aFree pFree
  iintro ⟨Ha, Hb, %X, Hp⟩ Hk
  iapply (step_load (fun _ => rfl)) $$ Ha; iintro Ha
  iapply step_loadB $$ Hb; iintro Hb
  iapply (step_load (fun _ => rfl)) $$ Hp; iintro Hp
  iapply (step_store (fun _ => rfl)) $$ Hp; iintro Hp
  iapply Hk
  isplitl [Ha]; · iexists _; iexact Ha
  isplitl [Hb]; · iexact Hb
  rw [← hg]; iexact Hp

/-- A chunk rounded into the slot that is sent. -/
theorem phase_round (s : Fin 2) (i : Fin 6) {g : Vec F S1x512x3072 .f32 → Vec F S1x512x3072 .bf16} (hg : g (partAt m c i) = msgAt m c i)
    {h1 : (Memref.whole cc0_scratch1).view.LoadsAt (rectP s).toLoadRect} {h2 : (Memref.whole cc0_scratch2).view.LoadsAt (rectP s).toLoadRect}
    {hx : ((Memref.whole cc0_scratch2).access (rectP s)).Stores Finset.univ} {hm : (Finset.univ : Finset (rectP s).shape.Idx) = Finset.univ ∨ ∀ a, (rectP s).stride a = 1}
    {k : PUnit → Prog (TpuEff nD τ sig (Elt F) Λ₀ .tc) PUnit} :
    iprop(ownsC c (pS s) fullShare (partAt m c i) ∗ sendPay c s)
      ⊢ iprop(((ownsC c (pS s) fullShare (partAt m c i) ∗ ownsC c (sS s) fullShare (msgAt m c i)) -∗ wpc c (k ⟨⟩) Q)
          -∗ wpc c (.op (.load (Memref.whole cc0_scratch1) (rectP s).toLoadRect h1) fun v =>
              .op (.load (Memref.whole cc0_scratch2) (rectP s).toLoadRect h2) fun _ =>
              .op (.store (Memref.whole cc0_scratch2) (rectP s) (g v) Finset.univ hx hm) k) Q) := by
  unfold sendPay
  iintro ⟨Hp, %X, Hs⟩ Hk
  iapply (step_load (fun _ => rfl)) $$ Hp; iintro Hp
  iapply (step_load (fun _ => rfl)) $$ Hs; iintro Hs
  iapply (step_store (fun _ => rfl)) $$ Hs; iintro Hs
  iapply Hk
  isplitl [Hp]; · iexact Hp
  rw [← hg]; iexact Hs

/-- The peer's chunk added. -/
theorem phase_add (s : Fin 2) (i : Fin 6) {g : Vec F S1x512x3072 .f32 → Vec F S1x512x3072 .bf16 → Vec F S1x512x3072 .f32}
    (hg : g (partAt m c i) (msgAt m (peer c) i) = sumAt m c i)
    {h1 : (Memref.whole cc0_scratch1).view.LoadsAt (rectP s).toLoadRect} {h2 : (Memref.whole cc0_scratch3).view.LoadsAt (rectP s).toLoadRect}
    {h3 : (Memref.whole cc0_scratch1).view.LoadsAt (rectP s).toLoadRect}
    {hx : ((Memref.whole cc0_scratch1).access (rectP s)).Stores Finset.univ} {hm : (Finset.univ : Finset (rectP s).shape.Idx) = Finset.univ ∨ ∀ a, (rectP s).stride a = 1}
    {k : PUnit → Prog (TpuEff nD τ sig (Elt F) Λ₀ .tc) PUnit} :
    iprop(ownsC c (pS s) fullShare (partAt m c i) ∗ ownsC c (rS s) fullShare (msgAt m (peer c) i))
      ⊢ iprop(((ownsC c (pS s) fullShare (sumAt m c i) ∗ ownsC c (rS s) fullShare (msgAt m (peer c) i)) -∗ wpc c (k ⟨⟩) Q)
          -∗ wpc c (.op (.load (Memref.whole cc0_scratch1) (rectP s).toLoadRect h1) fun v =>
              .op (.load (Memref.whole cc0_scratch3) (rectP s).toLoadRect h2) fun w =>
              .op (.load (Memref.whole cc0_scratch1) (rectP s).toLoadRect h3) fun _ =>
              .op (.store (Memref.whole cc0_scratch1) (rectP s) (g v w) Finset.univ hx hm) k) Q) := by
  iintro ⟨Hp, Hr⟩ Hk
  iapply (step_load (fun _ => rfl)) $$ Hp; iintro Hp
  iapply (step_load (fun _ => rfl)) $$ Hr; iintro Hr
  iapply (step_load (fun _ => rfl)) $$ Hp; iintro Hp
  iapply (step_store (fun _ => rfl)) $$ Hp; iintro Hp
  iapply Hk
  isplitl [Hp]; · rw [← hg]; iexact Hp
  iexact Hr

theorem phase_storeStart (s : Fin 2) (i : Fin 6) {hsrc : (pQ s).view.WordExact} {hdst : (oR i).view.WordExact}
    {hsem : DmaTarget.Typed (nD := nD) (τ := τ) (p := .tc) .vmem (.dma (storeS s)) (.here (oR i))}
    {k : PUnit → Prog (TpuEff nD τ sig (Elt F) Λ₀ .tc) PUnit} :
    iprop(ownsC c (pS s) fullShare (sumAt m c i) ∗ oFree c i ∗ semVal (storeCell c s) 0)
      ⊢ iprop((storing m c s i -∗ wpc c (k ⟨⟩) Q) -∗ wpc c (.op (.enqueueDma (pQ s) (.here (oR i)) (.dma (storeS s)) hsrc hdst hsem) k) Q) := by
  unfold oFree storing oRow
  iintro ⟨Hp, ⟨%X, Ho⟩, Hv⟩ Hk
  ihave Hp := (owns_squeeze (fun _ => rfl) squeezes_S1x512x3072_S512x3072 castP (sumAt m c i)) $$ Hp
  iapply (step_copy No (by fin_cases i <;> rfl) No_pos) $$ [Hp Ho Hv]
  · isplitl [Hp]; · iexact Hp
    isplitl [Ho]; · iexact Ho
    iexact Hv
  iexact Hk

theorem phase_storeWait (s : Fin 2) (i : Fin 6) (a b : ℕ) {hsrc : (pQ s).view.WordExact} {hdst : (oR i).view.WordExact}
    {k : PUnit → Prog (TpuEff nD τ sig (Elt F) Λ₀ .tc) PUnit} :
    iprop(records m K Ks ∗ owing c a b ∗ storing m c s i)
      ⊢ iprop(((owing c a b ∗ pFree c s ∗ oRow m c i ∗ semVal (storeCell c s) 0) -∗ wpc c (k ⟨⟩) Q)
          -∗ wpc c (.op (.waitDma2 (storeS s) (pQ s) (oR i) hsrc hdst) k) Q) := by
  unfold pFree storing owing
  iintro ⟨#Hrec, HO, HF⟩ Hk
  iapply (step_wait (by fin_cases i <;> rfl)) $$ [HO HF]
  · isplitl [HF]; · iexact HF
    isplitl [HO]; · iexact HO
    iapply (mayWait c (.dma (storeS s)) 0 a b (by decide) (fun _ => by omega) (fun _ => by omega))
    iapply records_lev; iexact Hrec
  iintro ⟨⟨Ho, Hp⟩, Hv, HO⟩
  iapply Hk
  isplitl [HO]; · iexact HO
  isplitl [Hp]
  · iexists _; iapply (owns_unsqueeze (fun _ => rfl) squeezes_S1x512x3072_S512x3072 castP.symm (shapeCast S512x3072 (sumAt m c i) castP)) $$ Hp
  isplitl [Ho] <;> iassumption

end Phases

end Cert.MatmulProof

end
-- ==== Proof.Body.lean ====
/-
# The body on one device

The whole body, symbolically executed once at a symbolic device, one lemma per effect or stretch of effects, in program
order: from the device's share of the exchange, its scratch and its blocks, to its rows of the result.
-/
module

public import proofs.«01_k».proof.Proof.Phases

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

/-! ## Wands for separating conjunctions -/

section Curry
variable {A B C D E G H W : sProp (MT nD τ sig ℕ (Elt F) ℕ UU ℕ)}

theorem curry2 (h : iprop(A ∗ B) ⊢ W) : A ⊢ iprop(B -∗ W) := by
  iintro HA HB; iapply h; isplitl [HA] <;> iassumption
theorem curry3 (h : iprop(A ∗ B ∗ C) ⊢ W) : A ⊢ iprop(B -∗ C -∗ W) := by
  iintro HA HB HC; iapply h; isplitl [HA]; · iexact HA
  isplitl [HB] <;> iassumption
theorem curry4 (h : iprop(A ∗ B ∗ C ∗ D) ⊢ W) : A ⊢ iprop(B -∗ C -∗ D -∗ W) := by
  iintro HA HB HC HD; iapply h
  isplitl [HA]; · iexact HA
  isplitl [HB]; · iexact HB
  isplitl [HC] <;> iassumption
theorem curry7 (h : iprop(A ∗ B ∗ C ∗ D ∗ E ∗ G ∗ H) ⊢ W) : A ⊢ iprop(B -∗ C -∗ D -∗ E -∗ G -∗ H -∗ W) := by
  iintro HA HB HC HD HE HG HH; iapply h
  isplitl [HA]; · iexact HA
  isplitl [HB]; · iexact HB
  isplitl [HC]; · iexact HC
  isplitl [HD]; · iexact HD
  isplitl [HE]; · iexact HE
  isplitl [HG] <;> iassumption
end Curry

/-! ## Small families, written out -/

theorem bigSep_six (Φ : Fin 6 → sProp 𝕄) : bigSep Finset.univ Φ = iprop(Φ 0 ∗ Φ 1 ∗ Φ 2 ∗ Φ 3 ∗ Φ 4 ∗ Φ 5) :=
  BI.bigSep_univ_eq_bigSepL [0, 1, 2, 3, 4, 5] (by decide) (by decide) Φ
theorem bigSep_four (Φ : Fin 4 → sProp 𝕄) : bigSep Finset.univ Φ = iprop(Φ 0 ∗ Φ 1 ∗ Φ 2 ∗ Φ 3) :=
  BI.bigSep_univ_eq_bigSepL [0, 1, 2, 3] (by decide) (by decide) Φ
theorem bigSep_two (Φ : Fin 2 → sProp 𝕄) : bigSep Finset.univ Φ = iprop(Φ 0 ∗ Φ 1) :=
  BI.bigSep_univ_eq_bigSepL [0, 1] (by decide) (by decide) Φ

/-! ## What a device has when its body begins, and when it ends -/

/-- A device's share of the exchange: the tokens of what it will do to its peer and the credits of what its peer will do to it. -/
def exchange (c : Dev nD) : sProp 𝕄 :=
  iprop((dutyTok ER (barCell (peer c)) 0 0 ∗ cred (tallyAt (barCell c) 1 1) ∗ atPos ER (barCell c) 0 ∅ 0 ∗ atPos ER (credCell c) 0 ∅ 0)
    ∗ bigSep Finset.univ (fun s : Fin 2 => iprop(Release.readerAt ES (c, s) 0 ∗ atPos ER (sendCell c s) 0 ∅ 0 ∗ atPos ER (recvCell c s) 0 ∅ 0))
    ∗ bigSep Finset.univ (fun i : Fin 6 => iprop(sendTok c (slotOf i.val) (i.val / 2) ∗ cred (tallyAt (recvCell c (slotOf i.val)) (2 * i.val + 2) N)))
    ∗ bigSep Finset.univ (fun j : Fin 4 => iprop(dutyTok ER (credCell (peer c)) 0 j.val ∗ cred (tallyAt (credCell c) (2 * j.val + 3) 1))))
/-- The same, written out. -/
def exchangeL (c : Dev nD) : sProp 𝕄 :=
  iprop((dutyTok ER (barCell (peer c)) 0 0 ∗ cred (tallyAt (barCell c) 1 1) ∗ atPos ER (barCell c) 0 ∅ 0 ∗ atPos ER (credCell c) 0 ∅ 0)
    ∗ ((Release.readerAt ES (c, (0 : Fin 2)) 0 ∗ atPos ER (sendCell c 0) 0 ∅ 0 ∗ atPos ER (recvCell c 0) 0 ∅ 0)
      ∗ (Release.readerAt ES (c, (1 : Fin 2)) 0 ∗ atPos ER (sendCell c 1) 0 ∅ 0 ∗ atPos ER (recvCell c 1) 0 ∅ 0))
    ∗ ((sendTok c 0 0 ∗ cred (tallyAt (recvCell c 0) (2 * 0 + 2) N)) ∗ (sendTok c 1 0 ∗ cred (tallyAt (recvCell c 1) (2 * 1 + 2) N))
      ∗ (sendTok c 0 1 ∗ cred (tallyAt (recvCell c 0) (2 * 2 + 2) N)) ∗ (sendTok c 1 1 ∗ cred (tallyAt (recvCell c 1) (2 * 3 + 2) N))
      ∗ (sendTok c 0 2 ∗ cred (tallyAt (recvCell c 0) (2 * 4 + 2) N)) ∗ (sendTok c 1 2 ∗ cred (tallyAt (recvCell c 1) (2 * 5 + 2) N)))
    ∗ ((dutyTok ER (credCell (peer c)) 0 0 ∗ cred (tallyAt (credCell c) (2 * 0 + 3) 1)) ∗ (dutyTok ER (credCell (peer c)) 0 1 ∗ cred (tallyAt (credCell c) (2 * 1 + 3) 1))
      ∗ (dutyTok ER (credCell (peer c)) 0 2 ∗ cred (tallyAt (credCell c) (2 * 2 + 3) 1)) ∗ (dutyTok ER (credCell (peer c)) 0 3 ∗ cred (tallyAt (credCell c) 9 1))))
theorem exchange_list (c : Dev nD) : exchange (F := F) c = exchangeL c := by
  unfold exchange exchangeL
  simp only [bigSep_six, bigSep_four, bigSep_two]
  rfl
/-- A device's double buffers, at whatever they hold. -/
def scratch (c : Dev nD) : sProp 𝕄 :=
  bigSep Finset.univ (fun s : Fin 2 => iprop(aFree c s ∗ pFree c s ∗ sendPay c s ∗ rslot (c, s)))
/-- The semaphores of the copies that stay on the device, at zero. -/
def copySems (c : Dev nD) : sProp 𝕄 := bigSep Finset.univ (fun s : Fin 2 => iprop(semVal (loadCell c s) 0 ∗ semVal (storeCell c s) 0))
/-- The semaphores of the exchange, at zero. -/
def exchSems (c : Dev nD) : sProp 𝕄 :=
  iprop(semVal (barCell c) 0 ∗ semVal (credCell c) 0 ∗ bigSep Finset.univ (fun s : Fin 2 => iprop(semVal (sendCell c s) 0 ∗ semVal (recvCell c s) 0)))
/-- A device's arrays, chunk by chunk: before the result is written, and after. -/
def arrays (c : Dev nD) : sProp 𝕄 := bigSep Finset.univ (fun i : Fin 6 => iprop(aRow m c i ∗ oFree c i))
def arraysDone (c : Dev nD) : sProp 𝕄 := bigSep Finset.univ (fun i : Fin 6 => iprop(aRow m c i ∗ oRow m c i))

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)

theorem barPay_split (c : Dev nD) : barPay (F := F) c ⊢ iprop(Release.released ES (peer c, (0 : Fin 2)) 1 ∗ Release.released ES (peer c, (1 : Fin 2)) 1) :=
  BI.Entails.refl _
theorem rfact_split (p : Dev nD) (k : ℕ) (s : Fin 2) (r : ℕ) (hs : slotOf k = s) (hr : k / 2 + 1 = r) :
    rfact (F := F) p k ⊢ iprop(Release.released ES (p, s) (r + 1) ∗ reached ER (recvCell p s) r) := by
  subst hs hr; exact BI.Entails.refl _
theorem records_reachedSend {K : Dev nD × Fin 6 → ℕ} {Ks : Dev nD × Fin 2 → ℕ} (c : Dev nD) (s : Fin 2) :
    records (F := F) m K Ks ⊢ reached ER (sendCell c s) 0 := by rw [← kcell_send]; exact records_reached _
theorem records_reachedRecv {K : Dev nD × Fin 6 → ℕ} {Ks : Dev nD × Fin 2 → ℕ} (c : Dev nD) (s : Fin 2) :
    records (F := F) m K Ks ⊢ reached ER (recvCell c s) 0 := by rw [← kcell_recv]; exact records_reached _
theorem rslot_intro (c : Dev nD) (s : Fin 2) (X : Vec F S1x512x3072 .bf16) : ownsC c (rS s) fullShare X ⊢ (rslot (c, s) : sProp 𝕄) := by
  unfold rslot; iintro H; iexists X; iexact H
theorem records_rprev {K : Dev nD × Fin 6 → ℕ} {Ks : Dev nD × Fin 2 → ℕ} (c : Dev nD) :
    records (F := F) m K Ks ⊢ rprev c 0 := by iintro -; unfold rprev; iempintro
instance rprev_persistent (c : Dev nD) (j : ℕ) : BI.Persistent (rprev (F := F) c j) := by cases j <;> unfold rprev <;> infer_instance

set_option maxRecDepth 20000 in
set_option maxHeartbeats 4000000 in
/-- The body from a device's share of the exchange to its rows of the result. -/
theorem sound_body (K : Dev nD × Fin 6 → ℕ) (Ks : Dev nD × Fin 2 → ℕ) (c : Dev nD) (Q : PUnit.{1} → sProp 𝕄) :
    iprop((records m K Ks ∗ (∃ W, owes (c : Thread nD τ) (O₀ c) W) ∗ exchange c ∗ scratch c ∗ copySems c ∗ bStg m c ∗ arrays m c)
        ∗ ((owing c 6 4 ∗ exchSems c ∗ scratch c ∗ copySems c ∗ bStg m c ∗ arraysDone m c) -∗ Q ⟨⟩))
      ⊢ wpc c (cc0_body (F := F) (Memref.whole main_arg0) (Memref.isWhole_whole _) (Memref.whole cc0_stg0_0) (Memref.isWhole_whole _)
          (Memref.whole main_v1) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  rw [exchange_list]; unfold exchangeL scratch copySems exchSems arrays arraysDone
  simp only [bigSep_six, bigSep_four, bigSep_two]
  iintro ⟨⟨#Hrec, HO, ⟨⟨HtB, HcB, HatB, HatC⟩, ⟨⟨Hrd0, Has0, Har0⟩, ⟨Hrd1, Has1, Har1⟩⟩,
      ⟨⟨Hst0, Hcr0⟩, ⟨Hst1, Hcr1⟩, ⟨Hst2, Hcr2⟩, ⟨Hst3, Hcr3⟩, ⟨Hst4, Hcr4⟩, ⟨Hst5, Hcr5⟩⟩,
      ⟨⟨Hdc0, Hcc0⟩, ⟨Hdc1, Hcc1⟩, ⟨Hdc2, Hcc2⟩, ⟨Hdc3, Hcc3⟩⟩⟩,
    ⟨⟨Haf0, Hpf0, Hsp0, Hr0⟩, ⟨Haf1, Hpf1, Hsp1, Hr1⟩⟩, ⟨⟨Hls0, Hss0⟩, ⟨Hls1, Hss1⟩⟩, HB,
    ⟨⟨HA0, Ho0⟩, ⟨HA1, Ho1⟩, ⟨HA2, Ho2⟩, ⟨HA3, Ho3⟩, ⟨HA4, Ho4⟩, ⟨HA5, Ho5⟩⟩⟩, Hk⟩
  ihave HatC := (credAt_zero c) $$ HatC
  ihave #Hrr0 := (records_reachedRecv m (peer c) 0) $$ Hrec
  ihave #Hrr1 := (records_reachedRecv m (peer c) 1) $$ Hrec
  ihave #Hrs0 := (records_reachedSend m c 0) $$ Hrec
  ihave #Hrs1 := (records_reachedSend m c 1) $$ Hrec
  ihave #Hpv0 := (records_rprev m (K := K) (Ks := Ks) c) $$ Hrec
  -- the handshake
  iapply (curry7 (step_barSignal (dev1_eq c) (by decide))) $$ Hrec HO HtB Hr0 Hr1 Hrd0 Hrd1
  iintro ⟨HO, Hrd0, Hrd1⟩
  iapply (curry4 (step_barWait (by decide))) $$ Hrec HO HcB HatB
  iintro ⟨HO, HvB, Hf⟩
  ihave Hf := (barPay_split c) $$ Hf
  icases Hf with ⟨#Hrel0, #Hrel1⟩
  -- chunk 0 computed and sent
  iapply (curry3 (phase_loadStart 0 0)) $$ HA0 Haf0 Hls0
  iintro HL0
  iapply (curry3 (phase_loadStart 1 1)) $$ HA1 Haf1 Hls1
  iintro HL1
  iapply (curry3 (phase_loadWait 0 0 0 0)) $$ Hrec HO HL0
  iintro ⟨HO, Haf0, HA0, Hls0⟩
  iapply (curry3 (phase_compute 0 0 (hg := rfl))) $$ Haf0 HB Hpf0
  iintro ⟨Haf0, HB, Hpf0⟩
  iapply (curry2 (phase_round 0 0 (hg := rfl))) $$ Hpf0 Hsp0
  iintro ⟨Hpf0, Hsp0⟩
  iapply (curry7 (step_send (dev2_eq c) 0 0 (by decide) 0 0 rfl (i := 0) rfl)) $$ Hrec HO Hsp0 Hrel0 Hrr0 Hrs0 Hst0
  iintro ⟨HO, Hcs0⟩
  -- chunk 1 computed and sent; chunk 0 received and added
  iapply (curry3 (phase_loadStart 0 2)) $$ HA2 Haf0 Hls0
  iintro HL2
  iapply (curry3 (phase_loadWait 1 1 1 0)) $$ Hrec HO HL1
  iintro ⟨HO, Haf1, HA1, Hls1⟩
  iapply (curry3 (phase_compute 1 1 (hg := rfl))) $$ Haf1 HB Hpf1
  iintro ⟨Haf1, HB, Hpf1⟩
  iapply (curry2 (phase_round 1 1 (hg := rfl))) $$ Hpf1 Hsp1
  iintro ⟨Hpf1, Hsp1⟩
  iapply (curry7 (step_send (dev3_eq c) 1 0 (by decide) 1 0 rfl (i := 1) rfl)) $$ Hrec HO Hsp1 Hrel1 Hrr1 Hrs1 Hst1
  iintro ⟨HO, Hcs1⟩
  iapply (curry4 (step_recvWait 0 0 (by decide) 0 2 0 rfl (i := 0) rfl (by decide) (by decide))) $$ Hrec HO Hcr0 Har0
  iintro ⟨HO, Har0, Hre0, Hr0⟩
  iapply (curry2 (phase_add 0 0 (hg := rfl))) $$ Hpf0 Hr0
  iintro ⟨Hpf0, Hr0⟩
  iapply (curry7 (step_credSignal (dev4_eq c) (by decide) 0 0 0 2 rfl (by decide))) $$ Hrec HO Hdc0 Hr0 Hrd0 Hre0 Hpv0
  iintro ⟨HO, Hrd0, #Hpv1⟩
  iapply (curry3 (phase_storeStart 0 0)) $$ Hpf0 Ho0 Hss0
  iintro HS0
  -- chunk 2 computed and sent; chunk 1 received and added
  iapply (curry3 (phase_loadStart 1 3)) $$ HA3 Haf1 Hls1
  iintro HL3
  iapply (curry3 (phase_loadWait 0 2 2 1)) $$ Hrec HO HL2
  iintro ⟨HO, Haf0, HA2, Hls0⟩
  iapply (curry3 (phase_storeWait 0 0 2 1)) $$ Hrec HO HS0
  iintro ⟨HO, Hpf0, Ho0, Hss0⟩
  iapply (curry3 (phase_compute 0 2 (hg := rfl))) $$ Haf0 HB Hpf0
  iintro ⟨Haf0, HB, Hpf0⟩
  iclear Hrs0
  iapply (curry4 (step_sendWait 0 0 (by decide) 2 1)) $$ Hrec HO Hcs0 Has0
  iintro ⟨HO, Has0, #Hrs0, Hsp0⟩
  iapply (curry2 (phase_round 0 2 (hg := rfl))) $$ Hpf0 Hsp0
  iintro ⟨Hpf0, Hsp0⟩
  iclear Hrel0 Hrr0
  iapply (curry4 (step_credWait (by decide) 0 2 1 (by decide) (by decide) (by decide))) $$ Hrec HO Hcc0 HatC
  iintro ⟨HO, HatC, Hf⟩
  ihave Hf := (rfact_split (peer c) 0 0 1 rfl rfl) $$ Hf
  icases Hf with ⟨#Hrel0, #Hrr0⟩
  iapply (curry7 (step_send (dev5_eq c) 0 1 (by decide) 2 1 rfl (i := 2) rfl)) $$ Hrec HO Hsp0 Hrel0 Hrr0 Hrs0 Hst2
  iintro ⟨HO, Hcs0⟩
  iapply (curry4 (step_recvWait 1 0 (by decide) 1 3 1 rfl (i := 1) rfl (by decide) (by decide))) $$ Hrec HO Hcr1 Har1
  iintro ⟨HO, Har1, Hre1, Hr1⟩
  iapply (curry2 (phase_add 1 1 (hg := rfl))) $$ Hpf1 Hr1
  iintro ⟨Hpf1, Hr1⟩
  iapply (curry7 (step_credSignal (dev6_eq c) (by decide) 1 0 1 3 rfl (by decide))) $$ Hrec HO Hdc1 Hr1 Hrd1 Hre1 Hpv1
  iintro ⟨HO, Hrd1, #Hpv2⟩
  iapply (curry3 (phase_storeStart 1 1)) $$ Hpf1 Ho1 Hss1
  iintro HS1
  -- chunk 3 computed and sent; chunk 2 received and added
  iapply (curry3 (phase_loadStart 0 4)) $$ HA4 Haf0 Hls0
  iintro HL4
  iapply (curry3 (phase_loadWait 1 3 3 2)) $$ Hrec HO HL3
  iintro ⟨HO, Haf1, HA3, Hls1⟩
  iapply (curry3 (phase_storeWait 1 1 3 2)) $$ Hrec HO HS1
  iintro ⟨HO, Hpf1, Ho1, Hss1⟩
  iapply (curry3 (phase_compute 1 3 (hg := rfl))) $$ Haf1 HB Hpf1
  iintro ⟨Haf1, HB, Hpf1⟩
  iclear Hrs1
  iapply (curry4 (step_sendWait 1 0 (by decide) 3 2)) $$ Hrec HO Hcs1 Has1
  iintro ⟨HO, Has1, #Hrs1, Hsp1⟩
  iapply (curry2 (phase_round 1 3 (hg := rfl))) $$ Hpf1 Hsp1
  iintro ⟨Hpf1, Hsp1⟩
  iclear Hrel1 Hrr1
  iapply (curry4 (step_credWait (by decide) 1 3 2 (by decide) (by decide) (by decide))) $$ Hrec HO Hcc1 HatC
  iintro ⟨HO, HatC, Hf⟩
  ihave Hf := (rfact_split (peer c) 1 1 1 rfl rfl) $$ Hf
  icases Hf with ⟨#Hrel1, #Hrr1⟩
  iapply (curry7 (step_send (dev7_eq c) 1 1 (by decide) 3 2 rfl (i := 3) rfl)) $$ Hrec HO Hsp1 Hrel1 Hrr1 Hrs1 Hst3
  iintro ⟨HO, Hcs1⟩
  iapply (curry4 (step_recvWait 0 1 (by decide) 2 4 2 rfl (i := 2) rfl (by decide) (by decide))) $$ Hrec HO Hcr2 Har0
  iintro ⟨HO, Har0, Hre2, Hr0⟩
  iapply (curry2 (phase_add 0 2 (hg := rfl))) $$ Hpf0 Hr0
  iintro ⟨Hpf0, Hr0⟩
  iapply (curry7 (step_credSignal (dev8_eq c) (by decide) 0 1 2 4 rfl (by decide))) $$ Hrec HO Hdc2 Hr0 Hrd0 Hre2 Hpv2
  iintro ⟨HO, Hrd0, #Hpv3⟩
  iapply (curry3 (phase_storeStart 0 2)) $$ Hpf0 Ho2 Hss0
  iintro HS2
  -- chunk 4 computed and sent; chunk 3 received and added
  iapply (curry3 (phase_loadStart 1 5)) $$ HA5 Haf1 Hls1
  iintro HL5
  iapply (curry3 (phase_loadWait 0 4 4 3)) $$ Hrec HO HL4
  iintro ⟨HO, Haf0, HA4, Hls0⟩
  iapply (curry3 (phase_storeWait 0 2 4 3)) $$ Hrec HO HS2
  iintro ⟨HO, Hpf0, Ho2, Hss0⟩
  iapply (curry3 (phase_compute 0 4 (hg := rfl))) $$ Haf0 HB Hpf0
  iintro ⟨Haf0, HB, Hpf0⟩
  iclear Hrs0
  iapply (curry4 (step_sendWait 0 1 (by decide) 4 3)) $$ Hrec HO Hcs0 Has0
  iintro ⟨HO, Has0, #Hrs0, Hsp0⟩
  iapply (curry2 (phase_round 0 4 (hg := rfl))) $$ Hpf0 Hsp0
  iintro ⟨Hpf0, Hsp0⟩
  iclear Hrel0 Hrr0
  iapply (curry4 (step_credWait (by decide) 2 4 3 (by decide) (by decide) (by decide))) $$ Hrec HO Hcc2 HatC
  iintro ⟨HO, HatC, Hf⟩
  ihave Hf := (rfact_split (peer c) 2 0 2 rfl rfl) $$ Hf
  icases Hf with ⟨#Hrel0, #Hrr0⟩
  iapply (curry7 (step_send (dev9_eq c) 0 2 (by decide) 4 3 rfl (i := 4) rfl)) $$ Hrec HO Hsp0 Hrel0 Hrr0 Hrs0 Hst4
  iintro ⟨HO, Hcs0⟩
  iapply (curry4 (step_recvWait 1 1 (by decide) 3 5 3 rfl (i := 3) rfl (by decide) (by decide))) $$ Hrec HO Hcr3 Har1
  iintro ⟨HO, Har1, Hre3, Hr1⟩
  iapply (curry2 (phase_add 1 3 (hg := rfl))) $$ Hpf1 Hr1
  iintro ⟨Hpf1, Hr1⟩
  iapply (curry7 (step_credSignal (dev10_eq c) (by decide) 1 1 3 5 rfl (by decide))) $$ Hrec HO Hdc3 Hr1 Hrd1 Hre3 Hpv3
  iintro ⟨HO, Hrd1, #Hpv4⟩
  iapply (curry3 (phase_storeStart 1 3)) $$ Hpf1 Ho3 Hss1
  iintro HS3
  -- chunk 5 computed and sent; chunk 4 received and added
  iapply (curry3 (phase_loadWait 1 5 5 4)) $$ Hrec HO HL5
  iintro ⟨HO, Haf1, HA5, Hls1⟩
  iapply (curry3 (phase_storeWait 1 3 5 4)) $$ Hrec HO HS3
  iintro ⟨HO, Hpf1, Ho3, Hss1⟩
  iapply (curry3 (phase_compute 1 5 (hg := rfl))) $$ Haf1 HB Hpf1
  iintro ⟨Haf1, HB, Hpf1⟩
  iclear Hrs1
  iapply (curry4 (step_sendWait 1 1 (by decide) 5 4)) $$ Hrec HO Hcs1 Has1
  iintro ⟨HO, Has1, #Hrs1, Hsp1⟩
  iapply (curry2 (phase_round 1 5 (hg := rfl))) $$ Hpf1 Hsp1
  iintro ⟨Hpf1, Hsp1⟩
  iclear Hrel1 Hrr1
  iapply (curry4 (step_credWaitLast (by decide) 5 4 (by decide) (by decide))) $$ Hrec HO Hcc3 HatC
  iintro ⟨HO, HvC, Hf⟩
  ihave Hf := (rfact_split (peer c) 3 1 2 rfl rfl) $$ Hf
  icases Hf with ⟨#Hrel1, #Hrr1⟩
  iapply (curry7 (step_send (dev11_eq c) 1 2 (by decide) 5 4 rfl (i := 5) rfl)) $$ Hrec HO Hsp1 Hrel1 Hrr1 Hrs1 Hst5
  iintro ⟨HO, Hcs1⟩
  iapply (curry4 (step_recvWait 0 2 (by decide) 4 6 4 rfl (i := 4) rfl (by decide) (by decide))) $$ Hrec HO Hcr4 Har0
  iintro ⟨HO, Har0, Hre4, Hr0⟩
  iapply (curry2 (phase_add 0 4 (hg := rfl))) $$ Hpf0 Hr0
  iintro ⟨Hpf0, Hr0⟩
  iapply (curry3 (phase_storeStart 0 4)) $$ Hpf0 Ho4 Hss0
  iintro HS4
  -- chunk 5 received and added
  iapply (curry4 (step_recvWait 1 2 (by decide) 5 6 4 rfl (i := 5) rfl (by decide) (by decide))) $$ Hrec HO Hcr5 Har1
  iintro ⟨HO, Har1, Hre5, Hr1⟩
  iapply (curry2 (phase_add 1 5 (hg := rfl))) $$ Hpf1 Hr1
  iintro ⟨Hpf1, Hr1⟩
  iapply (curry3 (phase_storeStart 1 5)) $$ Hpf1 Ho5 Hss1
  iintro HS5
  -- the last waits
  iclear Hrs0
  iapply (curry4 (step_sendWait 0 2 (by decide) 6 4)) $$ Hrec HO Hcs0 Has0
  iintro ⟨HO, Has0, #Hrs0, Hsp0⟩
  iclear Hrs1
  iapply (curry4 (step_sendWait 1 2 (by decide) 6 4)) $$ Hrec HO Hcs1 Has1
  iintro ⟨HO, Has1, #Hrs1, Hsp1⟩
  iapply (curry3 (phase_storeWait 0 4 6 4)) $$ Hrec HO HS4
  iintro ⟨HO, Hpf0, Ho4, Hss0⟩
  iapply (curry3 (phase_storeWait 1 5 6 4)) $$ Hrec HO HS5
  iintro ⟨HO, Hpf1, Ho5, Hss1⟩
  -- the exchange's semaphores are done with
  imod (curry2 (close_send 0)) $$ Hrec Has0 with HvS0
  imod (curry2 (close_recv 0)) $$ Hrec Har0 with HvR0
  imod (curry2 (close_send 1)) $$ Hrec Has1 with HvS1
  imod (curry2 (close_recv 1)) $$ Hrec Har1 with HvR1
  ihave Hrx0 := (rslot_intro c 0 _) $$ Hr0
  ihave Hrx1 := (rslot_intro c 1 _) $$ Hr1
  rw [wp_ret]; imodintro
  iapply Hk
  isplitl [HO]; · iexact HO
  isplitl [HvB HvC HvS0 HvR0 HvS1 HvR1]
  · isplitl [HvB]; · iexact HvB
    isplitl [HvC]; · iexact HvC
    isplitl [HvS0 HvR0]
    · isplitl [HvS0]; · iexact HvS0
      iexact HvR0
    isplitl [HvS1]; · iexact HvS1
    iexact HvR1
  isplitl [Haf0 Hpf0 Hsp0 Hrx0 Haf1 Hpf1 Hsp1 Hrx1]
  · isplitl [Haf0 Hpf0 Hsp0 Hrx0]
    · isplitl [Haf0]; · iexact Haf0
      isplitl [Hpf0]; · iexact Hpf0
      isplitl [Hsp0]; · iexact Hsp0
      iexact Hrx0
    isplitl [Haf1]; · iexact Haf1
    isplitl [Hpf1]; · iexact Hpf1
    isplitl [Hsp1]; · iexact Hsp1
    iexact Hrx1
  isplitl [Hls0 Hss0 Hls1 Hss1]
  · isplitl [Hls0 Hss0]
    · isplitl [Hls0]; · iexact Hls0
      iexact Hss0
    isplitl [Hls1]; · iexact Hls1
    iexact Hss1
  isplitl [HB]; · iexact HB
  isplitl [HA0 Ho0]
  · isplitl [HA0]; · iexact HA0
    iexact Ho0
  isplitl [HA1 Ho1]
  · isplitl [HA1]; · iexact HA1
    iexact Ho1
  isplitl [HA2 Ho2]
  · isplitl [HA2]; · iexact HA2
    iexact Ho2
  isplitl [HA3 Ho3]
  · isplitl [HA3]; · iexact HA3
    iexact Ho3
  isplitl [HA4 Ho4]
  · isplitl [HA4]; · iexact HA4
    iexact Ho4
  isplitl [HA5]; · iexact HA5
  iexact Ho5

end Cert.MatmulProof

end
-- ==== Proof.Split.lean ====
/-
# Buffers held piece by piece

The launch hands a device every buffer whole; the exchange holds the double buffers slot by slot and the arrays in HBM
chunk by chunk. This module cuts them, joins the double buffers again, and reads a chunk that is still held at the end out
of the final memory.
-/
module

public import proofs.«01_k».proof.Proof.Body
public import Idealize.ShloMosaic.Lib.Ring

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The families of rectangles cut their buffers -/

theorem rectA_disjoint (s s' : Fin 2) (h : s ≠ s') : Disjoint (rectA s).set (rectA s').set :=
  Ring.lead_disjoint (0 : Fin S2x512x1536.rank) 1 _ _ inbA (fun b => by simp) rfl s s' h
theorem rectA_cover : Finset.univ.biUnion (fun s => (rectA s).set) = Finset.univ :=
  Ring.lead_cover (0 : Fin S2x512x1536.rank) 1 _ _ inbA (fun b => by simp) (by decide) rfl (by decide) rfl
theorem rectP_disjoint (s s' : Fin 2) (h : s ≠ s') : Disjoint (rectP s).set (rectP s').set :=
  Ring.lead_disjoint (0 : Fin S2x512x3072.rank) 1 _ _ inbP (fun b => by simp) rfl s s' h
theorem rectP_cover : Finset.univ.biUnion (fun s => (rectP s).set) = Finset.univ :=
  Ring.lead_cover (0 : Fin S2x512x3072.rank) 1 _ _ inbP (fun b => by simp) (by decide) rfl (by decide) rfl
theorem rectAR_disjoint (i i' : Fin 6) (h : i ≠ i') : Disjoint (rectAR i).set (rectAR i').set :=
  Ring.lead_disjoint (0 : Fin S3072x1536.rank) 512 _ _ inbAR (fun b => rfl) rfl i i' h
theorem rectAR_cover : Finset.univ.biUnion (fun i => (rectAR i).set) = Finset.univ :=
  Ring.lead_cover (0 : Fin S3072x1536.rank) 512 _ _ inbAR (fun b => rfl) (by decide) rfl (by decide) (by decide)
theorem rectOR_disjoint (i i' : Fin 6) (h : i ≠ i') : Disjoint (rectOR i).set (rectOR i').set :=
  Ring.lead_disjoint (0 : Fin S3072x3072.rank) 512 _ _ inbOR (fun b => rfl) rfl i i' h
theorem rectOR_cover : Finset.univ.biUnion (fun i => (rectOR i).set) = Finset.univ :=
  Ring.lead_cover (0 : Fin S3072x3072.rank) 512 _ _ inbOR (fun b => rfl) (by decide) rfl (by decide) (by decide)

/-! ## Cutting and joining a whole buffer -/

section Whole

variable {T : Type} [Fintype T] [DecidableEq T]

/-- A buffer held whole is held piece by piece. -/
theorem whole_split (c : Dev nD) (b : Ref sig .tc) (r : T → Rect b.ty.shape) (hr : ∀ t a, (r t).stride a = 1)
    (hd : ∀ t t', t ≠ t' → Disjoint (r t).set (r t').set) (hc : Finset.univ.biUnion (fun t => (r t).set) = Finset.univ)
    (f : Buf (Elt F) ((c : Thread nD τ).loc b)) :
    ((((c : Thread nD τ).loc b) ↦{fullShare} f) : sProp 𝕄)
      ⊢ bigSep Finset.univ fun t => ownsC c ((Memref.whole b).slice (r t) (hr t)) fullShare
          (((Memref.whole b).slice (r t) (hr t)).view.read (Elt F) f) := by
  rw [← owns_whole]
  exact owns_rects (Ix := ℕ) (Name := ℕ) (U := UU) (Lvl := ℕ) (Val := Elt F) (c : Thread nD τ) (Memref.whole b) fullShare r hr hd hc f

/-- The same, the contents forgotten. -/
theorem whole_split_some (c : Dev nD) (b : Ref sig .tc) (r : T → Rect b.ty.shape) (hr : ∀ t a, (r t).stride a = 1)
    (hd : ∀ t t', t ≠ t' → Disjoint (r t).set (r t').set) (hc : Finset.univ.biUnion (fun t => (r t).set) = Finset.univ)
    (f : Buf (Elt F) ((c : Thread nD τ).loc b)) :
    ((((c : Thread nD τ).loc b) ↦{fullShare} f) : sProp 𝕄)
      ⊢ bigSep Finset.univ fun t => iprop(∃ X, ownsC c ((Memref.whole b).slice (r t) (hr t)) fullShare X) := by
  have h (t : T) : (ownsC c ((Memref.whole b).slice (r t) (hr t)) fullShare (((Memref.whole b).slice (r t) (hr t)).view.read (Elt F) f) : sProp 𝕄)
      ⊢ iprop(∃ X, ownsC c ((Memref.whole b).slice (r t) (hr t)) fullShare X) := by
    iintro H; iexists _; iexact H
  exact (whole_split c b r hr hd hc f).trans (bigSep_mono fun t _ => h t)

/-- Pieces held at any contents join to the buffer held whole. -/
theorem whole_join (c : Dev nD) (b : Ref sig .tc) (r : T → Rect b.ty.shape) (hr : ∀ t a, (r t).stride a = 1)
    (hd : ∀ t t', t ≠ t' → Disjoint (r t).set (r t').set) (hc : Finset.univ.biUnion (fun t => (r t).set) = Finset.univ)
    (f₀ : Buf (Elt F) ((c : Thread nD τ).loc b)) :
    bigSep Finset.univ (fun t => iprop(∃ X, ownsC c ((Memref.whole b).slice (r t) (hr t)) fullShare X))
      ⊢ (iprop(∃ f : Buf (Elt F) ((c : Thread nD τ).loc b), ((c : Thread nD τ).loc b) ↦{fullShare} f) : sProp 𝕄) := by
  have hset (t : T) : ((Memref.whole b).slice (r t) (hr t)).view.set = (r t).set :=
    View.set_slice_whole b (r t)
  have h := Ring.pointsTo_blocks_join_exists (Ix := ℕ) (Name := ℕ) (U := UU) (Lvl := ℕ) (Val := Elt F) (ℓ := (c : Thread nD τ).loc b)
    (fun t => (r t).set) hd hc (q := fullShare) f₀
  have h1 (t : T) : (iprop(∃ X, ownsC c ((Memref.whole b).slice (r t) (hr t)) fullShare X) : sProp 𝕄)
      ⊢ iprop(∃ f : Buf (Elt F) ((c : Thread nD τ).loc b), ((c : Thread nD τ).loc b) ↦[(r t).set]{fullShare} f) := by
    unfold ownsC owns
    iintro ⟨%X, %f, -, H⟩
    iexists f
    rw [← hset t]
    iexact H
  exact (bigSep_mono fun t _ => h1 t).trans h

end Whole

/-! ## The double buffers -/

theorem scratch_split (c : Dev nD) : (Pipeline.scopedRest (Ix := ℕ) (Name := ℕ) (U := UU) (Lvl := ℕ) (Val := Elt F) spec0 c : sProp 𝕄) ⊢ scratch c := by
  rw [scopedRest0_eq]
  unfold scratch aFree pFree sendPay rslot
  rw [bigSep_sep', bigSep_sep', bigSep_sep']
  iintro ⟨⟨%f0, H0⟩, ⟨%f1, H1⟩, ⟨%f2, H2⟩, ⟨%f3, H3⟩⟩
  isplitl [H0]
  · iapply (whole_split_some c cc0_scratch0 rectA (fun _ _ => rfl) rectA_disjoint rectA_cover f0)
    iexact H0
  isplitl [H1]
  · iapply (whole_split_some c cc0_scratch1 rectP (fun _ _ => rfl) rectP_disjoint rectP_cover f1)
    iexact H1
  isplitl [H2]
  · iapply (whole_split_some c cc0_scratch2 rectP (fun _ _ => rfl) rectP_disjoint rectP_cover f2)
    iexact H2
  · iapply (whole_split_some c cc0_scratch3 rectP (fun _ _ => rfl) rectP_disjoint rectP_cover f3)
    iexact H3

theorem scratch_join (c : Dev nD) : scratch c ⊢ (Pipeline.scopedRest (Ix := ℕ) (Name := ℕ) (U := UU) (Lvl := ℕ) (Val := Elt F) spec0 c : sProp 𝕄) := by
  rw [scopedRest0_eq]
  unfold scratch aFree pFree sendPay rslot
  rw [bigSep_sep', bigSep_sep', bigSep_sep']
  iintro ⟨H0, H1, H2, H3⟩
  isplitl [H0]
  · iapply (whole_join c cc0_scratch0 rectA (fun _ _ => rfl) rectA_disjoint rectA_cover (fun _ => Classical.arbitrary _)); iexact H0
  isplitl [H1]
  · iapply (whole_join c cc0_scratch1 rectP (fun _ _ => rfl) rectP_disjoint rectP_cover (fun _ => Classical.arbitrary _)); iexact H1
  isplitl [H2]
  · iapply (whole_join c cc0_scratch2 rectP (fun _ _ => rfl) rectP_disjoint rectP_cover (fun _ => Classical.arbitrary _)); iexact H2
  · iapply (whole_join c cc0_scratch3 rectP (fun _ _ => rfl) rectP_disjoint rectP_cover (fun _ => Classical.arbitrary _)); iexact H3

/-! ## The arrays in HBM -/

variable (m : (ℓ : Loc nD τ sig) → Buf (Elt F) ℓ)

theorem arrays_split (c : Dev nD) :
    (Pipeline.unscopedRest (Ix := ℕ) (Name := ℕ) (U := UU) (Lvl := ℕ) spec0 c (fun b => m ((c : Thread nD τ).loc b)) : sProp 𝕄) ⊢ arrays m c := by
  rw [unscopedRest0_eq]
  unfold arrays aRow oFree
  rw [bigSep_sep']
  iintro ⟨H0, H1⟩
  isplitl [H0]
  · iapply (whole_split c main_arg0 rectAR (fun _ _ => rfl) rectAR_disjoint rectAR_cover _)
    iexact H0
  · iapply (whole_split_some c main_v1 rectOR (fun _ _ => rfl) rectOR_disjoint rectOR_cover _)
    iexact H1

/-! ## Reading the final memory -/

/-- What a device owns, the memory holds. -/
theorem owns_mem (c : Dev nD) {sp : Space} {s : Shape} {e : EltTy} (w : Memref sig .tc sp s e) (X : s.Idx → Elt F e)
    (s' : Phys nD τ sig (Elt F)) :
    iprop(ownsC c w fullShare X ∗ SI s') ⊢ (iprop(⌜w.view.read (Elt F) (s'.mem.mem (w.view.loc (c : Thread nD τ))) = X⌝ ∗ SI s') : sProp 𝕄) := by
  unfold ownsC owns
  iintro ⟨⟨%f, %hf, H⟩, HSI⟩
  icombine HSI H gives %h
  isplitr
  · ipureintro
    rw [← hf]
    exact View.read_congr fun i hi => h i hi
  · iexact HSI

/-- Facts read one by one off the members of a family are read off the family. -/
theorem bigSep_read {I : Type} [DecidableEq I] {Φ : I → sProp 𝕄} {φ : I → Prop} {R : sProp 𝕄}
    (h : ∀ i, iprop(Φ i ∗ R) ⊢ iprop(⌜φ i⌝ ∗ R)) (S : Finset I) : iprop(bigSep S Φ ∗ R) ⊢ iprop(⌜∀ i ∈ S, φ i⌝ ∗ R) := by
  induction S using Finset.induction_on with
  | empty =>
    iintro ⟨-, HR⟩
    isplitr; · ipureintro; intro i hi; exact absurd hi (Finset.notMem_empty _)
    iexact HR
  | insert i S hi ih =>
    rw [bigSep_insert hi]
    refine (show iprop((Φ i ∗ bigSep S Φ) ∗ R) ⊢ _ from ?_)
    iintro ⟨⟨Hi, HS⟩, HR⟩
    ihave H := (h i) $$ [Hi HR]
    · isplitl [Hi] <;> iassumption
    icases H with ⟨%h1, HR⟩
    ihave H := ih $$ [HS HR]
    · isplitl [HS] <;> iassumption
    icases H with ⟨%h2, HR⟩
    isplitr
    · ipureintro
      intro j hj
      rcases Finset.mem_insert.mp hj with rfl | hj
      exacts [h1, h2 j hj]
    · iexact HR

/-- At the end the memory holds each chunk of the left operand as it was and each chunk of the result as computed. -/
theorem arrays_read (c : Dev nD) (s' : Phys nD τ sig (Elt F)) :
    iprop(arraysDone m c ∗ SI s')
      ⊢ (iprop(⌜∀ i : Fin 6, (aR i).view.read (Elt F) (s'.mem.mem ((c : Thread nD τ).loc main_arg0)) = aAt m c i
          ∧ (oR i).view.read (Elt F) (s'.mem.mem ((c : Thread nD τ).loc main_v1)) = shapeCast S512x3072 (sumAt m c i) castP⌝ ∗ SI s') : sProp 𝕄) := by
  have h := bigSep_read (F := F) (Φ := fun i : Fin 6 => iprop(aRow m c i ∗ oRow m c i))
    (φ := fun i => (aR i).view.read (Elt F) (s'.mem.mem ((c : Thread nD τ).loc main_arg0)) = aAt m c i
          ∧ (oR i).view.read (Elt F) (s'.mem.mem ((c : Thread nD τ).loc main_v1)) = shapeCast S512x3072 (sumAt m c i) castP)
    (R := SI s') (fun i => by
      unfold aRow oRow
      iintro ⟨⟨HA, HO⟩, HSI⟩
      ihave H := (owns_mem c (aR i) (aAt m c i) s') $$ [HA HSI]
      · isplitl [HA] <;> iassumption
      icases H with ⟨%h1, HSI⟩
      ihave H := (owns_mem c (oR i) (shapeCast S512x3072 (sumAt m c i) castP) s') $$ [HO HSI]
      · isplitl [HO] <;> iassumption
      icases H with ⟨%h2, HSI⟩
      isplitr
      · ipureintro; exact ⟨h1, h2⟩
      · iexact HSI) Finset.univ
  unfold arraysDone
  refine h.trans ?_
  iintro ⟨%hall, HSI⟩
  isplitr
  · ipureintro; exact fun i => hall i (Finset.mem_univ i)
  · iexact HSI

/-- Two contents of an array that read alike at every chunk are equal. -/
theorem ext_rows_A {f g : (main_arg0 : Ref sig .tc).ty.Contents (Elt F)}
    (h : ∀ i : Fin 6, (aR i).view.read (Elt F) f = (aR i).view.read (Elt F) g) : f = g := by
  funext x
  obtain ⟨i, -, hx⟩ := Finset.mem_biUnion.mp (rectAR_cover.symm ▸ Finset.mem_univ x)
  rw [← Rect.map_emb_univ, Finset.mem_map] at hx
  obtain ⟨j, -, rfl⟩ := hx
  exact congrFun (h i) j
theorem ext_rows_O {f g : (main_v1 : Ref sig .tc).ty.Contents (Elt F)}
    (h : ∀ i : Fin 6, (oR i).view.read (Elt F) f = (oR i).view.read (Elt F) g) : f = g := by
  funext x
  obtain ⟨i, -, hx⟩ := Finset.mem_biUnion.mp (rectOR_cover.symm ▸ Finset.mem_univ x)
  rw [← Rect.map_emb_univ, Finset.mem_map] at hx
  obtain ⟨j, -, rfl⟩ := hx
  exact congrFun (h i) j

end Cert.MatmulProof
-- ==== Proof.Launch.lean ====
/-
# The launch

The pipeline's proof data of the one call, the devices' ghost state as the launch mints and deals it, the credits, and the
whole program's run: every device's result holds its chunks as computed, its arguments are unchanged, and every semaphore
is back at zero.
-/
module

public import proofs.«01_k».proof.Proof.Split
public import Idealize.ShloMosaic.Lib.SparseCore.Launch
public import Idealize.ShloMosaic.Lib.Pipeline.CollectiveSegs

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's proof data -/

/-- What a device starts its body with, but for its double buffers. -/
def start (c : Dev nD) : sProp 𝕄 :=
  iprop((∃ K Ks, records m K Ks) ∗ exchange c ∗ copySems c ∗ arrays m c)
/-- Before the call's one point, and after it. -/
def Φ₀ (c : Dev nD) : sProp 𝕄 := iprop(start m c ∗ scratch c)
def Φ₁ (c : Dev nD) : sProp 𝕄 := iprop(exchSems c ∗ copySems c ∗ scratch c ∗ arraysDone m c)

def dats (_ : Fin 1) (c : Dev nD) : Dat τ (Elt F) ℕ ℕ UU ℕ cfg0 c where
  A w := m ((cfg0.win w).arr.view.loc (c : Thread nD τ))
  after w _ := match w with
    | ⟨0, _⟩ => bAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem fetch_all (t : Fin cfg0.N) : (cfg0.win (0 : Fin 1)).fetch t = true := by rw [show t = t0_0 from fin_N0 t]; rfl

/-- The staged block when the body begins. -/
theorem before_eq (c : Dev nD) (d : (cfg0.win (0 : Fin 1)).block.Idx → Elt F (cfg0.win (0 : Fin 1)).elt) :
    (dats m 0 c).before (0 : Fin 1) t0_0 d = bAt m c := by
  unfold Dat.before; rw [if_pos (fetch_all t0_0)]; rfl

set_option maxRecDepth 4000 in
/-- What the body takes and what it leaves, as the pipeline asks. -/
theorem body_triple (c : Dev nD) :
    iprop(Φ₀ m c ∗ (dats m 0 c).owesAt 0 (t0_0 : Fin cfg0.N).castSucc
        ∗ (∃ d, ownsC c (Memref.whole cc0_stg0_0) fullShare ((dats m 0 c).before (0 : Fin 1) t0_0 d)))
      ⊢ wpc c (cc0_body (F := F) (Memref.whole main_arg0) (Memref.isWhole_whole _) (Memref.whole cc0_stg0_0) (Memref.isWhole_whole _)
          (Memref.whole main_v1) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8)
        (fun _ => iprop(Φ₁ m c ∗ (dats m 0 c).owesAt 0 (t0_0 : Fin cfg0.N).succ ∗ ownsC c (Memref.whole cc0_stg0_0) fullShare (bAt m c))) := by
  unfold Φ₀ start
  iintro ⟨⟨⟨⟨%K, %Ks, Hrec⟩, Hex, Hcs, Har⟩, Hscr⟩, Ho, ⟨%d, Hb⟩⟩
  rw [before_eq]
  unfold Dat.owesAt Pipeline.owesWithin
  icases Ho with ⟨%W, %hW, HO⟩
  rw [show (dats m 0 c).owed (t0_0 : Fin cfg0.N).castSucc = O₀ c from rfl, show (dats m 0 c).owed (t0_0 : Fin cfg0.N).succ = 0 from rfl]
  iapply (sound_body m K Ks c _)
  isplitr []
  · isplitl [Hrec]; · iexact Hrec
    isplitl [HO]; · iexists W; iexact HO
    isplitl [Hex]; · iexact Hex
    isplitl [Hscr]; · iexact Hscr
    isplitl [Hcs]; · iexact Hcs
    isplitl [Hb]; · unfold bStg; iexact Hb
    iexact Har
  · unfold owing Φ₁ bStg
    rw [owed_done]
    iintro ⟨⟨%W', HO⟩, Hex, Hscr, Hcs, Hb, Har⟩
    isplitl [Hex Hscr Hcs Har]
    · isplitl [Hex]; · iexact Hex
      isplitl [Hcs]; · iexact Hcs
      isplitl [Hscr]; · iexact Hscr
      iexact Har
    isplitl [HO]
    · iexists W'
      isplitr
      · ipureintro; exact fun _ _ => Or.inl trivial
      · iexact HO
    · iexact Hb

set_option maxRecDepth 40000 in
/-- The pipeline's obligation for the body on core `c`. -/
theorem body_obligation (c : Dev nD) : BodyObligation (dats (F := F) m 0 c) (defs₀ (F := F)) 𝒱₀ 0 Set.univ := fun t => by
  rw [show t = t0_0 from fin_N0 t]
  rw [bigSep_W0, bigSep_W0]
  exact body_triple m c

/-! ## The ghost state minted at launch -/

/-- The kernel's own semaphores: send, receive, load, store, credit. -/
abbrev osem : Fin 9 → SemLoc sig := ![.dma (sendS 0), .dma (sendS 1), .dma (recvS 0), .dma (recvS 1), .dma (loadS 0), .dma (loadS 1),
  .dma (storeS 0), .dma (storeS 1), .reg credS]

set_option maxRecDepth 20000 in
theorem ownSemFacts : Pipeline.OwnSemFacts cfg0.spec osem := by decide

/-- The cells of the exchange. -/
def ringCells : Finset (GSem nD τ sig) := Finset.univ.map ⟨kcell, kcell_injective⟩

/-- The duties on one device's cells: semaphore, round, name. -/
def tkey : Fin 17 → SemLoc sig × ℕ × ℕ := ![(.reg barS, 0, 0),
  (.dma (sendS 0), 0, 0), (.dma (sendS 1), 0, 0), (.dma (sendS 0), 1, 0), (.dma (sendS 1), 1, 0), (.dma (sendS 0), 2, 0), (.dma (sendS 1), 2, 0),
  (.dma (recvS 0), 0, 0), (.dma (recvS 1), 0, 0), (.dma (recvS 0), 1, 0), (.dma (recvS 1), 1, 0), (.dma (recvS 0), 2, 0), (.dma (recvS 1), 2, 0),
  (.reg credS, 0, 0), (.reg credS, 0, 1), (.reg credS, 0, 2), (.reg credS, 0, 3)]
theorem tkey_injective : Function.Injective tkey := by decide
def tokOf (cj : Dev nD × Fin 17) : GSem nD τ sig × ℕ × ℕ := (((cj.1 : Thread nD τ), (tkey cj.2).1), (tkey cj.2).2)
theorem tokOf_injective : Function.Injective tokOf := by
  rintro ⟨c, j⟩ ⟨c', j'⟩ h
  have h1 : c = c' := congrArg (fun x : GSem nD τ sig × ℕ × ℕ => x.1.1.1) h
  have h2 : tkey j = tkey j' := Prod.ext (congrArg (fun x : GSem nD τ sig × ℕ × ℕ => x.1.2) h) (congrArg (fun x : GSem nD τ sig × ℕ × ℕ => x.2) h)
  rw [h1, tkey_injective h2]
def ringToks : Finset (GSem nD τ sig × ℕ × ℕ) := Finset.univ.map ⟨tokOf, tokOf_injective⟩

/-- The launch element: the pipeline's cells, the exchange's cells and duties, the slots with three writes each. -/
def u₀ : UU :=
  (initOf (Pipeline.cells cfgs cellOf_inj) (Pipeline.launchToks cfgs cellOf_inj),
    (initOf ringCells ringToks, (Release.initSlots (Finset.univ : Finset (Dev nD × Fin 2)) 3, 1)))

/-- The duties of device `c`'s own cells. -/
def toks (c : Dev nD) : sProp 𝕄 :=
  iprop(dutyTok ER (barCell c) 0 0
    ∗ bigSep Finset.univ (fun i : Fin 6 => dutyTok ER (sendCell c (slotOf i.val)) (i.val / 2) 0)
    ∗ bigSep Finset.univ (fun i : Fin 6 => dutyTok ER (recvCell c (slotOf i.val)) (i.val / 2) 0)
    ∗ bigSep Finset.univ (fun j : Fin 4 => dutyTok ER (credCell c) 0 j.val))
/-- The writes of device `c`'s receive slots. -/
def wtoks (c : Dev nD) : sProp 𝕄 := bigSep Finset.univ (fun i : Fin 6 => Release.writeTok ES (c, slotOf i.val) (i.val / 2 + 1))
/-- The slots as minted for device `c`: the invariants of all of them, its readers' places, the writes of its slots. -/
def slotG (c : Dev nD) : sProp 𝕄 :=
  iprop((∃ Ks : Dev nD × Fin 2 → ℕ, bigSep Finset.univ (fun key => Release.slotInv ES (Ks key) key (rslot key)))
    ∗ bigSep Finset.univ (fun s : Fin 2 => Release.readerAt ES (c, s) 0) ∗ wtoks c)
/-- Device `c`'s positions and the rounds reached. -/
def places (c : Dev nD) : sProp 𝕄 := bigSep Finset.univ fun k : Fin 6 => iprop(atPos ER (kcell (c, k)) 0 ∅ 0 ∗ reached ER (kcell (c, k)) 0)

/-- What the launch element deals device `c`. -/
def G (c : Dev nD) : sProp 𝕄 :=
  iprop(((bigSep Finset.univ fun k : Fin 6 => roundState ER (Rd m) (kcell (c, k)) 0) ∗ places c ∗ toks c) ∗ slotG c)

theorem bigSep_seventeen (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  BI.bigSep_univ_eq_bigSepL [0, 1, 2, 3, 4, 5, 6, 7, 8, 9, 10, 11, 12, 13, 14, 15, 16] (by decide) (by decide) Φ

theorem toks_intro (c : Dev nD) :
    bigSep Finset.univ (fun j : Fin 17 => (dutyTok ER (tokOf (c, j)).1 (tokOf (c, j)).2.1 (tokOf (c, j)).2.2 : sProp 𝕄)) ⊢ toks c := by
  unfold toks
  rw [bigSep_seventeen, bigSep_six, bigSep_six, bigSep_four]
  iintro ⟨H0, H1, H2, H3, H4, H5, H6, H7, H8, H9, H10, H11, H12, H13, H14, H15, H16⟩
  isplitl [H0]; · iexact H0
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7 H8 H9 H10 H11 H12]
  · isplitl [H7]; · iexact H7
    isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  iexact H16

/-- The exchange's part of the launch element, dealt by device. -/
theorem fund_ring : BI.own (ER (initOf ringCells ringToks))
    ⊢ (|==> bigSep Finset.univ (fun c : Dev nD => iprop((bigSep Finset.univ fun k : Fin 6 => roundState ER (Rd m) (kcell (c, k)) 0) ∗ places c ∗ toks c)) : sProp 𝕄) := by
  have hX (Φ : GSem nD τ sig → sProp 𝕄) : bigSep ringCells Φ = bigSep Finset.univ fun c : Dev nD => bigSep Finset.univ fun k : Fin 6 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold places; simp only [bigSep_sep']
  isplitl [Hst']; · iexact Hst'
  isplitl [Hat' Hr']
  · isplitl [Hat'] <;> iassumption
  iexact Htok'

theorem wtoks_intro (c : Dev nD) :
    bigSep Finset.univ (fun s : Fin 2 => bigSep (Finset.range 3) fun r => (Release.writeTok ES (c, s) (r + 1) : sProp 𝕄)) ⊢ wtoks c := by
  unfold wtoks
  have h3 (Φ : ℕ → sProp 𝕄) : bigSep (Finset.range 3) Φ = iprop(Φ 0 ∗ Φ 1 ∗ Φ 2) :=
    bigSep_eq_bigSepL_of_eq [0, 1, 2] (by decide) (by decide) Φ
  rw [bigSep_six, bigSep_two, h3, h3]
  iintro ⟨⟨H0, H2, H4⟩, H1, H3, H5⟩
  isplitl [H0]; · iexact H0
  isplitl [H1]; · iexact H1
  isplitl [H2]; · iexact H2
  isplitl [H3]; · iexact H3
  isplitl [H4]; · iexact H4
  iexact H5

/-- A persistent fact goes to every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The slots' part of the launch element, dealt by device. -/
theorem fund_slots : BI.own (ES (Release.initSlots (Finset.univ : Finset (Dev nD × Fin 2)) 3))
    ⊢ (|={Set.univ}=> bigSep Finset.univ (fun c : Dev nD => slotG c) : sProp 𝕄) := by
  have hR : bigSep Finset.univ (fun key : Dev nD × Fin 2 => (Release.readerAt ES key 0 : sProp 𝕄))
      ⊢ bigSep Finset.univ (fun c : Dev nD => bigSep Finset.univ (fun s : Fin 2 => Release.readerAt ES (c, s) 0)) :=
    Entails.of_eq (bigSep_univ_prod _)
  have hW : bigSep ((Finset.univ : Finset (Dev nD × Fin 2)) ×ˢ Finset.range 3) (fun x => (Release.writeTok ES x.1 (x.2 + 1) : sProp 𝕄))
      ⊢ bigSep Finset.univ (fun c : Dev nD => wtoks c) :=
    (Entails.of_eq ((SparseCore.bigSep_product _ _ _).trans (bigSep_univ_prod _))).trans (bigSep_mono fun c _ => wtoks_intro c)
  have hone (Ks : Dev nD × Fin 2 → ℕ) (c : Dev nD) : iprop(bigSep Finset.univ (fun key => Release.slotInv ES (Ks key) key (rslot (F := F) key))
      ∗ bigSep Finset.univ (fun s : Fin 2 => Release.readerAt ES (c, s) 0) ∗ wtoks c) ⊢ slotG c := by
    unfold slotG
    iintro ⟨#Hi, Hr, Hw⟩
    isplitr; · iexists Ks; iexact Hi
    isplitl [Hr] <;> iassumption
  iintro H
  imod (Release.slots_init ES (Finset.univ : Finset (Dev nD × Fin 2)) 3 (rslot (F := F)) (Es := Set.univ)) $$ H with ⟨%Ks, -, #Hinv, Hrd, Hwt⟩
  imodintro
  iapply (bigSep_with_persistent (R := bigSep Finset.univ (fun key => Release.slotInv ES (Ks key) key (rslot (F := F) key))) fun c _ => hone Ks c)
  isplitr; · iexact Hinv
  iapply (Entails.of_eq (bigSep_sep' Finset.univ (fun c : Dev nD => bigSep Finset.univ (fun s : Fin 2 => (Release.readerAt ES (c, s) 0 : sProp 𝕄))) wtoks).symm)
  isplitl [Hrd]
  · iapply hR; iexact Hrd
  · iapply hW; iexact Hwt

/-- The launch element is the pipeline's part and every device's deal. -/
theorem fund : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  icases H with ⟨HR, HX⟩
  ihave H := (own_pair_emb _ _ _) $$ HX
  icases H with ⟨HS, -⟩
  imod (fund_ring m) $$ HR with HR
  imod (fund_slots (F := F)) $$ HS with HS
  imodintro
  isplitl [HP]; · iexact HP
  iapply (Entails.of_eq (bigSep_sep' Finset.univ (fun c : Dev nD => iprop((bigSep Finset.univ fun k : Fin 6 => roundState ER (Rd m) (kcell (c, k)) 0) ∗ places c ∗ toks c)) slotG).symm)
  isplitl [HR] <;> iassumption

end Cert.MatmulProof
-- ==== Proof.Run.lean ====
/-
# The run

The launch's global step, the credits each device starts with, and the whole program's run on the mesh: every device's
result holds its chunks as computed, its arguments are unchanged, and every semaphore is back at zero.
-/
module

public import proofs.«01_k».proof.Proof.Launch

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores at launch and at exit -/

theorem ownSems0_eq (c : Dev nD) : (Pipeline.ownSems0 (Ix := ℕ) (Name := ℕ) (U := UU) (Lvl := ℕ) (Val := Elt F) (τ := τ) osem c : sProp 𝕄)
    = iprop(semVal (sendCell c 0) 0 ∗ semVal (sendCell c 1) 0 ∗ semVal (recvCell c 0) 0 ∗ semVal (recvCell c 1) 0
      ∗ semVal (loadCell c 0) 0 ∗ semVal (loadCell c 1) 0 ∗ semVal (storeCell c 0) 0 ∗ semVal (storeCell c 1) 0 ∗ semVal (credCell c) 0) := by
  rw [Pipeline.ownSems0_eq_of_list c osem [0, 1, 2, 3, 4, 5, 6, 7, 8] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- At launch: the exchange's cells, and the local copies' semaphores. -/
theorem sems_split (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 6 => semVal (kcell (c, k)) 0) ∗ copySems c) : sProp 𝕄) := by
  unfold copySems
  rw [ownSems0_eq, unscopedSems0_eq, bigSep_six, bigSep_two]
  iintro ⟨⟨Hs0, Hs1, Hr0, Hr1, Hl0, Hl1, Ht0, Ht1, HC⟩, HB⟩
  isplitl [Hs0 Hs1 Hr0 Hr1 HC HB]
  · isplitl [HB]; · iexact HB
    isplitl [Hs0]; · iexact Hs0
    isplitl [Hs1]; · iexact Hs1
    isplitl [Hr0]; · iexact Hr0
    isplitl [Hr1]; · iexact Hr1
    iexact HC
  isplitl [Hl0 Ht0]
  · isplitl [Hl0] <;> iassumption
  · isplitl [Hl1] <;> iassumption

/-- At exit: all of them back at zero. -/
theorem sems_join (c : Dev nD) :
    iprop(exchSems c ∗ copySems c)
      ⊢ (iprop(unscopedSems0 c ∗ Pipeline.ownSems0 (Ix := ℕ) (Name := ℕ) (U := UU) (Lvl := ℕ) (Val := Elt F) (τ := τ) osem c) : sProp 𝕄) := by
  unfold copySems exchSems
  rw [ownSems0_eq, unscopedSems0_eq, bigSep_two, bigSep_two]
  iintro ⟨⟨HB, HC, ⟨Hs0, Hr0⟩, ⟨Hs1, Hr1⟩⟩, ⟨Hl0, Ht0⟩, ⟨Hl1, Ht1⟩⟩
  isplitl [HB]; · iexact HB
  isplitl [Hs0]; · iexact Hs0
  isplitl [Hs1]; · iexact Hs1
  isplitl [Hr0]; · iexact Hr0
  isplitl [Hr1]; · iexact Hr1
  isplitl [Hl0]; · iexact Hl0
  isplitl [Hl1]; · iexact Hl1
  isplitl [Ht0]; · iexact Ht0
  isplitl [Ht1]; · iexact Ht1
  iexact HC

/-! ## The global step -/

/-- One device's cells become invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ places c ∗ (toks c ∗ copySems c) ∗ slotG c) := by
  unfold G
  iintro ⟨Hos, Hus, ⟨Hst, Hat, Htok⟩, Hsl⟩
  ihave H := (sems_split (F := F) c) $$ [Hos Hus]
  · isplitl [Hos] <;> iassumption
  icases H with ⟨Hv, Hcs⟩
  imod (show iprop((bigSep Finset.univ fun k : Fin 6 => semVal (kcell (c, k)) 0) ∗ bigSep Finset.univ fun k : Fin 6 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok Hcs]
  · isplitl [Htok] <;> iassumption
  iexact Hsl

/-- The invariants, but for the levels. -/
def records₀ (K : Dev nD × Fin 6 → ℕ) (Ks : Dev nD × Fin 2 → ℕ) : sProp 𝕄 :=
  iprop(bigSep Finset.univ (fun ck => cellInv ER (Rd m) (K ck) (kcell ck)) ∗ bigSep Finset.univ (fun ck => reached ER (kcell ck) 0)
    ∗ bigSep Finset.univ (fun key => Release.slotInv ES (Ks key) key (rslot key)))

instance records₀_persistent (K : Dev nD × Fin 6 → ℕ) (Ks : Dev nD × Fin 2 → ℕ) : BI.Persistent (records₀ (F := F) m K Ks) := by
  unfold records₀; infer_instance

/-- The duties device `c` performs. -/
def payToks (c : Dev nD) : sProp 𝕄 :=
  iprop(dutyTok ER (barCell (peer c)) 0 0
    ∗ bigSep Finset.univ (fun i : Fin 6 => dutyTok ER (sendCell c (slotOf i.val)) (i.val / 2) 0)
    ∗ bigSep Finset.univ (fun i : Fin 6 => dutyTok ER (recvCell (peer c) (slotOf i.val)) (i.val / 2) 0)
    ∗ bigSep Finset.univ (fun j : Fin 4 => dutyTok ER (credCell (peer c)) 0 j.val))

/-- The duties dealt across each pair. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pairing (fun c : Dev nD => (dutyTok ER (barCell c) 0 0 : sProp 𝕄)),
    bigSep_univ_equiv pairing (fun c : Dev nD => (bigSep Finset.univ (fun i : Fin 6 => dutyTok ER (recvCell c (slotOf i.val)) (i.val / 2) 0) : sProp 𝕄)),
    bigSep_univ_equiv pairing (fun c : Dev nD => (bigSep Finset.univ (fun j : Fin 4 => dutyTok ER (credCell c) 0 j.val) : sProp 𝕄))]
  exact BI.Entails.refl _
/-- The writes of each receive slot go to the peer. -/
theorem wtoks_across : (bigSep Finset.univ fun c : Dev nD => (wtoks c : sProp 𝕄)) ⊢ bigSep Finset.univ fun c : Dev nD => wtoks (peer c) :=
  Entails.of_eq (bigSep_univ_equiv pairing (fun c : Dev nD => (wtoks c : sProp 𝕄)))

/-- What stays with device `c`. -/
def linear (c : Dev nD) : sProp 𝕄 :=
  iprop((bigSep Finset.univ fun k : Fin 6 => atPos ER (kcell (c, k)) 0 ∅ 0) ∗ payToks c ∗ copySems c
    ∗ bigSep Finset.univ (fun s : Fin 2 => Release.readerAt ES (c, s) 0) ∗ wtoks (peer c))
/-- What the global step makes of a device's deal. -/
def G' (c : Dev nD) : sProp 𝕄 := iprop((∃ K Ks, records₀ m K Ks) ∗ linear c)

instance slots_persistent : BI.Persistent (iprop(∃ Ks : Dev nD × Fin 2 → ℕ, bigSep Finset.univ (fun key => Release.slotInv ES (Ks key) key (rslot (F := F) key))) : sProp 𝕄) := by
  infer_instance

theorem regroup :
    (bigSep Finset.univ fun c : Dev nD => iprop((bigSep Finset.univ fun k => iprop(∃ κ : ℕ, cellInv ER (Rd m) κ (kcell (c, k))))
          ∗ places c ∗ (toks c ∗ copySems c) ∗ slotG c) : sProp 𝕄)
      ⊢ bigSep Finset.univ (G' m) := by
  have hI : (bigSep Finset.univ fun c : Dev nD => bigSep Finset.univ fun k => iprop(∃ κ : ℕ, cellInv ER (Rd m) κ (kcell (c, k))) : sProp 𝕄)
      ⊢ iprop(∃ K : Dev nD × Fin 6 → ℕ, bigSep Finset.univ (fun ck => cellInv ER (Rd m) (K ck) (kcell ck))) :=
    (Entails.of_eq (bigSep_univ_prod (fun ck : Dev nD × Fin 6 => iprop(∃ κ : ℕ, cellInv ER (Rd m) κ (kcell ck)))).symm).trans
      (BI.bigSep_exists_pi Finset.univ (fun (ck : Dev nD × Fin 6) (κ : ℕ) => (cellInv ER (Rd m) κ (kcell ck) : sProp 𝕄)))
  have hP : (bigSep Finset.univ fun c : Dev nD => (places c : sProp 𝕄))
      ⊢ iprop((bigSep Finset.univ fun c : Dev nD => bigSep Finset.univ fun k : Fin 6 => atPos ER (kcell (c, k)) 0 ∅ 0)
        ∗ bigSep Finset.univ (fun ck : Dev nD × Fin 6 => reached ER (kcell ck) 0)) := by
    unfold places
    rw [bigSep_univ_prod (fun ck : Dev nD × Fin 6 => (reached ER (kcell ck) 0 : sProp 𝕄)), ← bigSep_sep']
    exact bigSep_mono fun c _ => Entails.of_eq (bigSep_sep' Finset.univ (fun k : Fin 6 => (atPos ER (kcell (c, k)) 0 ∅ 0 : sProp 𝕄)) (fun k => reached ER (kcell (c, k)) 0))
  have hone (K : Dev nD × Fin 6 → ℕ) (c : Dev nD) :
      iprop((bigSep Finset.univ (fun ck => cellInv ER (Rd m) (K ck) (kcell ck)) ∗ bigSep Finset.univ (fun ck : Dev nD × Fin 6 => reached ER (kcell ck) 0))
        ∗ ((bigSep Finset.univ fun k : Fin 6 => atPos ER (kcell (c, k)) 0 ∅ 0) ∗ (payToks c ∗ copySems c)
          ∗ (iprop(∃ Ks : Dev nD × Fin 2 → ℕ, bigSep Finset.univ (fun key => Release.slotInv ES (Ks key) key (rslot (F := F) key)))
            ∗ bigSep Finset.univ (fun s : Fin 2 => Release.readerAt ES (c, s) 0)) ∗ wtoks (peer c))) ⊢ G' m c := by
    unfold G' records₀ linear
    iintro ⟨⟨#HI, #HR⟩, Hat, ⟨Htk, Hcs⟩, ⟨⟨%Ks, #HS⟩, Hrd⟩, Hwt⟩
    isplitr
    · iexists K, Ks
      isplitr; · iexact HI
      isplitr; · iexact HR
      iexact HS
    isplitl [Hat]; · iexact Hat
    isplitl [Htk]; · iexact Htk
    isplitl [Hcs]; · iexact Hcs
    isplitl [Hrd]; · iexact Hrd
    iexact Hwt
  unfold slotG
  simp only [bigSep_sep']
  iintro ⟨HI, Hpl, ⟨Htok, Hcs⟩, HS, Hrd, Hwt⟩
  ihave HK := hI $$ HI
  icases HK with ⟨%K, #HI⟩
  ihave H := hP $$ Hpl
  icases H with ⟨Hat, #HR⟩
  ihave Htk := (toks_across (F := F)) $$ Htok
  ihave Hwt := (wtoks_across (F := F)) $$ Hwt
  iapply (bigSep_with_persistent fun c _ => hone K c)
  isplitr
  · isplitr; · iexact HI
    iexact HR
  simp only [bigSep_sep']
  isplitl [Hat]; · iexact Hat
  isplitl [Htk Hcs]
  · isplitl [Htk] <;> iassumption
  isplitl [HS Hrd]
  · isplitl [HS] <;> iassumption
  iexact Hwt

/-- The global step: every device's cells at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What a device may wait for, as its peer owes it. -/
def credits (c : Dev nD) : sProp 𝕄 :=
  iprop((bigSep Finset.univ (fun i : Fin 6 => cred (tallyAt (recvCell c (slotOf i.val)) (2 * i.val + 2) N))
      ∗ bigSep Finset.univ (fun j : Fin 4 => cred (tallyAt (credCell c) (2 * j.val + 3) 1)))
    ∗ cred (tallyAt (barCell c) 1 1))

theorem credits_intro (c : Dev nD) : (Pipeline.launchCred O₀ c : sProp 𝕄) ⊢ credits c := by
  have h6 (Φ : ℕ → sProp 𝕄) : bigSep (Finset.Ico 0 6) Φ = bigSep Finset.univ fun i : Fin 6 => Φ i.val :=
    (bigSep_eq_bigSepL_of_eq [0, 1, 2, 3, 4, 5] (by decide) (by decide) Φ).trans (bigSep_six (fun i : Fin 6 => Φ i.val)).symm
  have h4 (Φ : ℕ → sProp 𝕄) : bigSep (Finset.Ico 0 4) Φ = bigSep Finset.univ fun j : Fin 4 => Φ j.val :=
    (bigSep_eq_bigSepL_of_eq [0, 1, 2, 3] (by decide) (by decide) Φ).trans (bigSep_four (fun i : Fin 4 => Φ i.val)).symm
  unfold O₀ owed owedR owedC credits
  rw [Pipeline.launchCred_add, Pipeline.launchCred_add, Pipeline.launchCred_sum, Pipeline.launchCred_sum, h6, h4]
  exact sep_mono (sep_mono
    (bigSep_mono fun i _ => Pipeline.launchCred_tallyAt (.dma (recvS (slotOf i.val))) peer peer peer_peer peer_peer _ _ c)
    (bigSep_mono fun j _ => Pipeline.launchCred_tallyAt (.reg credS) peer peer peer_peer peer_peer _ _ c))
    (Pipeline.launchCred_tallyAt (.reg barS) peer peer peer_peer peer_peer _ _ c)

/-! ## What the body starts from, what it leaves -/

theorem exchange_intro (c : Dev nD) :
    iprop((bigSep Finset.univ fun k : Fin 6 => atPos ER (kcell (c, k)) 0 ∅ 0) ∗ payToks c
      ∗ bigSep Finset.univ (fun s : Fin 2 => Release.readerAt ES (c, s) 0) ∗ wtoks (peer c) ∗ credits c) ⊢ (exchange c : sProp 𝕄) := by
  unfold payToks wtoks credits exchange sendTok
  simp only [bigSep_sep']
  rw [bigSep_six (fun k : Fin 6 => (atPos ER (kcell (c, k)) 0 ∅ 0 : sProp 𝕄)), bigSep_two (fun s : Fin 2 => (atPos ER (sendCell c s) 0 ∅ 0 : sProp 𝕄)),
    bigSep_two (fun s : Fin 2 => (atPos ER (recvCell c s) 0 ∅ 0 : sProp 𝕄))]
  iintro ⟨⟨HaB, HaS0, HaS1, HaR0, HaR1, HaC⟩, ⟨HtB, HtS, HtR, HtC⟩, Hrd, Hwt, ⟨HcR, HcC⟩, HcB⟩
  isplitl [HaB HaC HtB HcB]
  · isplitl [HtB]; · iexact HtB
    isplitl [HcB]; · iexact HcB
    isplitl [HaB]; · iexact HaB
    iexact HaC
  isplitl [HaS0 HaS1 HaR0 HaR1 Hrd]
  · isplitl [Hrd]; · iexact Hrd
    isplitl [HaS0 HaS1]
    · isplitl [HaS0] <;> iassumption
    · isplitl [HaR0] <;> iassumption
  isplitl [HtS HtR Hwt HcR]
  · isplitl [HtS HtR Hwt]
    · isplitl [Hwt]; · iexact Hwt
      isplitl [HtS] <;> iassumption
    · iexact HcR
  isplitl [HtC] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  unfold G' linear
  iintro ⟨Hrest, #Hlev, Hcr, -, ⟨%K, %Ks, #Hrec⟩, Hat, Htk, Hcs, Hrd, Hwt⟩
  ihave Hc := (credits_intro (F := F) c) $$ Hcr
  ihave Har := (arrays_split m c) $$ Hrest
  imodintro
  unfold start
  isplitl
  · isplitr
    · iexists K, Ks
      unfold records records₀
      icases Hrec with ⟨H1, H2, H3⟩
      isplitr; · iexact H1
      isplitr; · iexact H2
      isplitr; · iexact H3
      iexact Hlev
    isplitl [Hat Htk Hrd Hwt Hc]
    · iapply (exchange_intro c)
      isplitl [Hat]; · iexact Hat
      isplitl [Htk]; · iexact Htk
      isplitl [Hrd]; · iexact Hrd
      isplitl [Hwt] <;> iassumption
    isplitl [Hcs] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_split c); iexact Hr

theorem phi1_exit (c : Dev nD) :
    (dats m 0 c).Φ (Fin.last cfg0.N) ⊢ iprop((unscopedSems0 c ∗ arraysDone m c) ∗ Pipeline.ownSems0 osem c ∗ Pipeline.scopedRest cfg0.spec c) := by
  rw [show (dats m 0 c).Φ (Fin.last cfg0.N) = Φ₁ m c from rfl]
  unfold Φ₁
  iintro ⟨Hex, Hcs, Hscr, Har⟩
  ihave H := (sems_join (F := F) c) $$ [Hex Hcs]
  · isplitl [Hex] <;> iassumption
  icases H with ⟨Hu, Ho⟩
  isplitl [Hu Har]
  · isplitl [Hu] <;> iassumption
  isplitl [Ho]; · iexact Ho
  iapply (scratch_join c); iexact Hscr

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_stage c _
    · show (levAts L lv : sProp 𝕄) ⊢ MayWait (c : Thread nD τ) _ 0 0
      rw [← owed_done c]
      exact mayWait c _ 0 6 4 (by omega) (by omega) (by omega)

/-! ## The run -/

/-- What the memory holds at the end: on every device each chunk of the result as computed and the arguments as they were. -/
def Final (s : MemSt nD τ sig (Elt F)) : Prop :=
  ∀ c : Dev nD,
    (∀ i : Fin 6, (oR i).view.read (Elt F) (s.mem ((c : Thread nD τ).loc main_v1)) = shapeCast S512x3072 (sumAt m c i) castP)
    ∧ s.mem ((c : Thread nD τ).loc main_arg0) = m ((c : Thread nD τ).loc main_arg0)
    ∧ s.mem ((c : Thread nD τ).loc main_arg1) = m ((c : Thread nD τ).loc main_arg1)

set_option maxRecDepth 40000 in
/-- For any float values, from any memory with zero counters: every execution of the program on the mesh terminates, and
    every final state holds `Final` and every semaphore counter at zero. -/
theorem run_main : θ_run defs (onTc (τ := τ) (main (F := F))) ⟨m, fun _ => 0, ρ⟩ (fun r => Final m r.2 ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund m) (hglob := glob m)
    (hA := fun _ _ => rfl) (hpf := fun _ k => k.elim0)
    (X := start m) (Y := fun c => iprop(unscopedSems0 c ∗ arraysDone m c)) (Z := fun _ => iprop(emp))
    (hX := start_intro m ρ) (hin := phi0_intro m) (hout := phi1_exit m)
    (QY := fun c s => (∀ i : Fin 6, (aR i).view.read (Elt F) (s.mem ((c : Thread nD τ).loc main_arg0)) = aAt m c i
          ∧ (oR i).view.read (Elt F) (s.mem ((c : Thread nD τ).loc main_v1)) = shapeCast S512x3072 (sumAt m c i) castP)
      ∧ ∀ sm : SemLoc sig, sm.isScoped .tc = false → s.sem ((c.tc : Thread nD τ), sm) = 0)
    (hY := fun c s' => by
      iintro ⟨⟨Hu, Har⟩, -, HSI⟩
      ihave H := (arrays_read m c s') $$ [Har HSI]
      · isplitl [Har] <;> iassumption
      icases H with ⟨%h1, HSI⟩
      imod (Pipeline.unscopedSems0_read (X := unscopedSems0 c) (c := c) fupd_intro s') $$ [Hu HSI] with ⟨%h2, HSI⟩
      · isplitl [Hu] <;> iassumption
      imodintro
      isplitr
      · ipureintro; exact ⟨h1, h2⟩
      · iexact HSI)
    (hQ := fun s h hs => ⟨fun c => ⟨fun i => ((h c).2.2.1 i).2, ext_rows_A fun i => ((h c).2.2.1 i).1,
        ((h c).1 (0 : Fin 1)).trans ((dats (F := F) m 0 c).arrAt_in (0 : Fin 1) rfl _)⟩, sem_eq_zero hs fun c => (h c).2.2.2⟩)

end Cert.MatmulProof
-- ==== Proof.Value.lean ====
/-
# The value of the exchange over the ideal numbers

Over the ideal numbers the rounding of a partial product is the identity, so chunk `i` on device `c` ends as the sum of
the partial products of `c` and of its peer. The two devices of a pair hold the same columns of the right operand and the
two halves of the contracted axis, so that sum is the whole contraction, whichever of the two computed which half: every
device ends with its columns of the product of the whole arrays.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.MatmulPlain
public import Idealize.ShloMosaic.Lib.StackMember
public import Idealize.ShloMosaic.Lib.ValueLayout

@[expose] public section

noncomputable section

namespace Cert.MatmulProof

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ)

/-- The whole left operand, and the whole right one. -/
abbrev WholeA : Type := (⟨2, ![3072, 3072]⟩ : Shape).Idx → Ideal .f32
abbrev WholeB : Type := (⟨2, ![3072, 6144]⟩ : Shape).Idx → Ideal .f32

/-! ## Places -/

/-- Row `r` of chunk `i`. -/
def rowOf (i : Fin 6) (r : Fin 512) : Fin 3072 := ⟨512 * i.val + r.val, by omega⟩
/-- Position `k` of half `x` of the contracted axis. -/
def midOf (x : Fin 2) (k : Fin 1536) : Fin 3072 := ⟨x.val * 1536 + k.val, by omega⟩
/-- Column `n` of half `y` of the columns. -/
def colOf (y : Fin 2) (n : Fin 3072) : Fin 6144 := ⟨y.val * 3072 + n.val, by omega⟩
/-- The half of the contracted axis that device `c` holds, and the half of the columns. -/
def xOf (c : Dev nD) : Fin 2 := ⟨c.val / 2, by revert c; decide⟩
def yOf (c : Dev nD) : Fin 2 := ⟨c.val % 2, Nat.mod_lt _ (by decide)⟩

theorem lin_x (c : Dev nD) : Layout.meshLin [2, 2] c.val [0] = c.val / 2 := by revert c; decide
theorem lin_y (c : Dev nD) : Layout.meshLin [2, 2] c.val [1] = c.val % 2 := by revert c; decide
theorem yOf_peer (c : Dev nD) : yOf (peer c) = yOf c := by revert c; decide
theorem xOf_peer (c : Dev nD) : xOf (peer c) = 1 - xOf c := by revert c; decide

/-! ## The two halves of a sum -/

/-- A sum over the contracted axis, half by half. -/
theorem sum_halves (f : Fin 3072 → Ideal .f32) (x : Fin 2) :
    (∑ k : Fin 1536, f (midOf x k)) + (∑ k : Fin 1536, f (midOf (1 - x) k)) = ∑ k : Fin 3072, f k := by
  have h : (∑ k : Fin 1536, f (midOf 0 k)) + (∑ k : Fin 1536, f (midOf 1 k)) = ∑ k : Fin 3072, f k := by
    rw [show (∑ k : Fin 3072, f k) = ∑ k : Fin (1536 + 1536), f k from rfl, Fin.sum_univ_add]
    refine congrArg₂ (· + ·) (Finset.sum_congr rfl fun k _ => congrArg f (Fin.ext ?_))
      (Finset.sum_congr rfl fun k _ => congrArg f (Fin.ext ?_))
    · show 0 * 1536 + k.val = k.val; omega
    · show 1 * 1536 + k.val = 1536 + k.val; omega
  match x with
  | 0 => exact h
  | 1 => exact (add_comm _ _).trans h

/-! ## What a device holds of the whole arrays -/

section Blocks

variable {m} {A : WholeA} {B : WholeB} {c : Dev nD}

/-- A chunk of the left operand read at an index. -/
theorem aAt_apply (hA : m ((c : Thread nD τ).loc main_arg0)
      = Layout.blockN ⟨2, ![3072, 1536]⟩ ⟨2, ![3072, 3072]⟩ (Layout.meshBlock [2, 2] ![[], [0]] c) A)
    (i : Fin 6) (r : Fin 512) (k : Fin 1536) : aAt m c i (ix2 r k) = A (ix2 (rowOf i r) (midOf (xOf c) k)) := by
  show m ((c : Thread nD τ).loc main_arg0) ((rectAR i).emb (ix2 r k)) = _
  rw [hA]
  refine congrArg A (funext fun a => Fin.ext ?_)
  match a with
  | ⟨0, _⟩ => show 0 * 3072 + (512 * i.val + 1 * r.val) = 512 * i.val + r.val; omega
  | ⟨1, _⟩ =>
    show Layout.meshLin [2, 2] c.val [0] * 1536 + (0 + 1 * k.val) = (c.val / 2) * 1536 + k.val
    rw [lin_x]; omega

/-- The staged block of the right operand read at an index. -/
theorem bAt_apply (hB : m ((c : Thread nD τ).loc main_arg1)
      = Layout.blockN ⟨2, ![1536, 3072]⟩ ⟨2, ![3072, 6144]⟩ (Layout.meshBlock [2, 2] ![[0], [1]] c) B)
    (k : Fin 1536) (n : Fin 3072) : bAt m c (ix2 k n) = B (ix2 (midOf (xOf c) k) (colOf (yOf c) n)) := by
  have hw : bAt m c = m ((c : Thread nD τ).loc main_arg1) := Memref.read_access_unit_zero (Elt Ideal) main_arg1 (funext fun a => by fin_cases a <;> rfl) _ _
  rw [hw, hB]
  refine congrArg B (funext fun a => Fin.ext ?_)
  match a with
  | ⟨0, _⟩ =>
    show Layout.meshLin [2, 2] c.val [0] * 1536 + k.val = (c.val / 2) * 1536 + k.val
    rw [lin_x]
  | ⟨1, _⟩ =>
    show Layout.meshLin [2, 2] c.val [1] * 3072 + n.val = (c.val % 2) * 3072 + n.val
    rw [lin_y]

end Blocks

/-! ## The values of the kernel -/

/-- A partial product read at an index: the contraction over the block's axis. -/
theorem pay1_apply (u : Vec Ideal S512x1536 .f32) (h : S512x1536.ShapeCasts S1x512x1536) (v : Vec Ideal S1536x3072 .f32)
    (r : Fin 512) (n : Fin 3072) :
    k0_pay1 (shapeCast S1x512x1536 u h) v (ix3 (0 : Fin 1) r n) = ∑ k : Fin 1536, u (ix2 r k) * v (ix2 k n) := by
  unfold k0_pay1
  simp only [shapeCast_shapeCast, shapeCast_self]
  refine (shapeCast_ab_1ab_apply _ _ 0 r n).trans ?_
  refine (Ideal.matmul_plain_apply none u v _ r n).trans ?_
  exact (congrArg (· + _) Ideal.ofBits_zero_f32).trans (zero_add _)

/-- The rounded partial product is the partial product. -/
theorem pay2_apply (v : Vec Ideal S1x512x3072 .f32) (r : Fin 512) (n : Fin 3072) :
    k0_pay2 v (ix3 (0 : Fin 1) r n) = v (ix3 (0 : Fin 1) r n) := by
  unfold k0_pay2
  refine (shapeCast_ab_1ab_apply _ _ 0 r n).trans ?_
  exact shapeCast_1ab_ab_apply v _ r n

/-- The sum of two partial products read at an index. -/
theorem pay5_apply (v : Vec Ideal S1x512x3072 .f32) (w : Vec Ideal S1x512x3072 .bf16) (r : Fin 512) (n : Fin 3072) :
    k0_pay5 v w (ix3 (0 : Fin 1) r n) = v (ix3 (0 : Fin 1) r n) + w (ix3 (0 : Fin 1) r n) := by
  unfold k0_pay5
  refine (shapeCast_ab_1ab_apply _ _ 0 r n).trans ?_
  exact congrArg₂ (· + ·) (shapeCast_1ab_ab_apply v _ r n) (shapeCast_1ab_ab_apply w _ r n)

/-! ## The result -/

/-- Every device holds its blocks of the whole arrays. -/
def Holds (A : WholeA) (B : WholeB) : Prop := ∀ c : Dev nD,
  m ((c : Thread nD τ).loc main_arg0)
      = Layout.blockN ⟨2, ![3072, 1536]⟩ ⟨2, ![3072, 3072]⟩ (Layout.meshBlock [2, 2] ![[], [0]] c) A
  ∧ m ((c : Thread nD τ).loc main_arg1)
      = Layout.blockN ⟨2, ![1536, 3072]⟩ ⟨2, ![3072, 6144]⟩ (Layout.meshBlock [2, 2] ![[0], [1]] c) B

variable {m} {A : WholeA} {B : WholeB} (h : Holds m A B) (c : Dev nD) (i : Fin 6) (r : Fin 512) (n : Fin 3072)
include h

/-- A device's partial product is its half of the contraction. -/
theorem partAt_apply : partAt m c i (ix3 (0 : Fin 1) r n)
    = ∑ k : Fin 1536, A (ix2 (rowOf i r) (midOf (xOf c) k)) * B (ix2 (midOf (xOf c) k) (colOf (yOf c) n)) := by
  refine (pay1_apply _ _ _ r n).trans (Finset.sum_congr rfl fun k _ => ?_)
  rw [aAt_apply (h c).1, bAt_apply (h c).2]

/-- A device's result is the whole contraction. -/
theorem sumAt_apply : sumAt m c i (ix3 (0 : Fin 1) r n)
    = ∑ k : Fin 3072, A (ix2 (rowOf i r) k) * B (ix2 k (colOf (yOf c) n)) := by
  refine (pay5_apply _ _ r n).trans ?_
  have h2 : msgAt m (peer c) i (ix3 (0 : Fin 1) r n) = partAt m (peer c) i (ix3 (0 : Fin 1) r n) := pay2_apply _ r n
  rw [h2, partAt_apply h c i r n, partAt_apply h (peer c) i r n, yOf_peer, xOf_peer]
  exact sum_halves (fun k => A (ix2 (rowOf i r) k) * B (ix2 k (colOf (yOf c) n))) (xOf c)

omit h in
/-- The block of a device's columns read at an index of a chunk. -/
theorem block_apply (V : (⟨2, ![3072, 6144]⟩ : Shape).Idx → Ideal .f32) :
    (Layout.blockN ⟨2, ![3072, 3072]⟩ ⟨2, ![3072, 6144]⟩ (Layout.meshBlock [2, 2] ![[], [1]] c) V : S3072x3072.Idx → Ideal .f32)
        ((rectOR i).emb (ix2 r n))
      = V (ix2 (rowOf i r) (colOf (yOf c) n)) := by
  refine congrArg V (funext fun a => Fin.ext ?_)
  match a with
  | ⟨0, _⟩ => show 0 * 3072 + (512 * i.val + 1 * r.val) = 512 * i.val + r.val; omega
  | ⟨1, _⟩ =>
    show Layout.meshLin [2, 2] c.val [1] * 3072 + (0 + 1 * n.val) = (c.val % 2) * 3072 + n.val
    rw [lin_y]; omega

omit r n i c in
/-- From `Final`, every device's result is its columns of the product of the whole arrays. -/
theorem final_value {s : MemSt nD τ sig (Elt Ideal)} (hs : Final m s) (c : Dev nD) :
    s.mem ((c : Thread nD τ).loc main_v1)
      = Layout.blockN ⟨2, ![3072, 3072]⟩ ⟨2, ![3072, 6144]⟩ (Layout.meshBlock [2, 2] ![[], [1]] c)
          (Host.dotGeneral (F := Ideal) (DotDims.plain 3072 3072 6144) none A B) := by
  refine ext_rows_O (F := Ideal) fun i => ((hs c).1 i).trans (funext fun j => ?_)
  obtain ⟨r, n, rfl⟩ : ∃ (r : Fin 512) (n : Fin 3072), j = ix2 r n := ⟨j 0, j 1, eq_ix2 j⟩
  refine (shapeCast_1ab_ab_apply _ _ r n).trans ((sumAt_apply h c i r n).trans ?_)
  exact ((block_apply c i r n _).trans (StackMember.dotGeneral_plain_apply none A B (rowOf i r) (colOf (yOf c) n))).symm

/-- The arguments as they were and every counter at zero. -/
def Kept {F : FTy → Type} (m : (ℓ : Loc nD τ sig) → Buf (Elt F) ℓ) (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1))
  ∧ s.sem = fun _ => 0

end Cert.MatmulProof

/-! ## The claims -/

namespace Cert.Proof

open Idealize.ShloMosaic Idealize.ShloMosaic.TcCoe Idealize.SL.Sem Cert.Kernel.Gen Cert.KernelIdeal.Gen Cert.ReferenceIdeal.Gen

/-- The frame of the program at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => Cert.MatmulProof.Kept m r.2) :=
  (θ_run Cert.KernelIdeal.defs _ _).mono (fun _ h => ⟨fun c => (h.1 c).2, h.2⟩) (Cert.MatmulProof.run_main m ρ)

/-! The program and the one it is compared through are the same text, declared twice; so are their tables of bodies. -/

/-- The kernels' bodies. -/
theorem body_same {F : FTy → Type} [FloatOps F] : (Cert.Kernel.defs₀ (F := F)) = Cert.KernelIdeal.defs₀ (F := F) :=
  congrArg Defs.onTc (funext fun ℓ => match ℓ with
    | ⟨0, _⟩ => funext fun _ => rfl
    | ⟨_ + 1, h⟩ => absurd h (Nat.not_lt.2 (Nat.le_add_left _ _)))

/-- With each pallas_call's region and pipeline. -/
theorem defs_same {F : FTy → Type} [FloatOps F] : (Cert.Kernel.defs (F := F)) = Cert.KernelIdeal.defs (F := F) :=
  congrArg (Pipeline.defs Cert.KernelIdeal.pcfgs) body_same

/-- The frame of the program at the bit-exact values. -/
theorem frame_kernel : Cert.quiescent_Kernel := fun m ρ _ =>
  have h : θ_run (Cert.Kernel.defs (F := Bits)) (onTc (τ := Cert.KernelIdeal.τ) (Cert.KernelIdeal.main (F := Bits))) ⟨m, fun _ => 0, ρ⟩
      (fun r => Cert.MatmulProof.Kept m r.2) := by
    rw [defs_same]; exact frame_any m ρ
  h

/-- Its frame over the ideal numbers. -/
theorem frame_ideal : Cert.quiescent_KernelIdeal := fun m ρ _ => frame_any (F := Ideal) m ρ

/-- The frame of the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the ideal numbers every device ends with its columns of the reference's product. -/
theorem value : Cert.algebraic_KernelIdeal_ReferenceIdeal := fun m ρ m' ρ' _ hm =>
  ⟨_, (θ_run Cert.KernelIdeal.defs _ _).mono (fun _ h c => ⟨Cert.MatmulProof.final_value hm h.1 c, (h.1 c).2⟩)
      (Cert.MatmulProof.run_main (F := Ideal) m ρ),
    (θ_run Cert.ReferenceIdeal.defs _ _).mono (fun _ h => h 0) (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value⟩

end Cert.Proof

end
